-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MlpMid (m : (ℓ : Loc Cert.MlpMid.nD Cert.MlpMid.τ Cert.MlpMid.sig) → Buf (Elt Bits) ℓ) : Prop :=
  True

def Pre_MlpMidIdeal (m : (ℓ : Loc Cert.MlpMidIdeal.nD Cert.MlpMidIdeal.τ Cert.MlpMidIdeal.sig) → Buf (Elt Ideal) ℓ) : Prop :=
  True

def Pre_RefMlpMidIdeal (m : (ℓ : Loc Cert.RefMlpMidIdeal.nD Cert.RefMlpMidIdeal.τ Cert.RefMlpMidIdeal.sig) → Buf (Elt Ideal) ℓ) : Prop :=
  True

def Pre_MlpLast (m : (ℓ : Loc Cert.MlpLast.nD Cert.MlpLast.τ Cert.MlpLast.sig) → Buf (Elt Bits) ℓ) : Prop :=
  True

def Pre_MlpLastIdeal (m : (ℓ : Loc Cert.MlpLastIdeal.nD Cert.MlpLastIdeal.τ Cert.MlpLastIdeal.sig) → Buf (Elt Ideal) ℓ) : Prop :=
  True

def Pre_RefMlpLastIdeal (m : (ℓ : Loc Cert.RefMlpLastIdeal.nD Cert.RefMlpLastIdeal.τ Cert.RefMlpLastIdeal.sig) → Buf (Elt Ideal) ℓ) : Prop :=
  True

def Pre_NormProj (m : (ℓ : Loc Cert.NormProj.nD Cert.NormProj.τ Cert.NormProj.sig) → Buf (Elt Bits) ℓ) : Prop :=
  True

def Pre_NormProjIdeal (m : (ℓ : Loc Cert.NormProjIdeal.nD Cert.NormProjIdeal.τ Cert.NormProjIdeal.sig) → Buf (Elt Ideal) ℓ) : Prop :=
  True

def Pre_RefNormProjIdeal (m : (ℓ : Loc Cert.RefNormProjIdeal.nD Cert.RefNormProjIdeal.τ Cert.RefNormProjIdeal.sig) → Buf (Elt Ideal) ℓ) : Prop :=
  True

def Pre_NormGlu (m : (ℓ : Loc Cert.NormGlu.nD Cert.NormGlu.τ Cert.NormGlu.sig) → Buf (Elt Bits) ℓ) : Prop :=
  True

def Pre_NormGluIdeal (m : (ℓ : Loc Cert.NormGluIdeal.nD Cert.NormGluIdeal.τ Cert.NormGluIdeal.sig) → Buf (Elt Ideal) ℓ) : Prop :=
  True

def Pre_RefNormGluIdeal (m : (ℓ : Loc Cert.RefNormGluIdeal.nD Cert.RefNormGluIdeal.τ Cert.RefNormGluIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_RefPrepIdeal (m : (ℓ : Loc Cert.RefPrepIdeal.nD Cert.RefPrepIdeal.τ Cert.RefPrepIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_RefConvIdeal (m : (ℓ : Loc Cert.RefConvIdeal.nD Cert.RefConvIdeal.τ Cert.RefConvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_MlpMid [hMlpMid : Cert.MlpMid.Facts] : Prop :=
  ∀ (m : (ℓ : Loc Cert.MlpMid.nD Cert.MlpMid.τ Cert.MlpMid.sig) → Buf (Elt Bits) ℓ) (g : Dev Cert.MlpMid.nD → PrngReg), Pre_MlpMid m →
    θ_run (Cert.MlpMid.defs (F := Bits)) (onTc (τ := Cert.MlpMid.τ) (Cert.MlpMid.main (F := Bits))) ⟨m, fun _ => 0, g⟩ (fun r => (∀ c : Dev Cert.MlpMid.nD,
      r.2.mem ((c.tc : Thread Cert.MlpMid.nD Cert.MlpMid.τ).loc Cert.MlpMid.main_arg0) = m ((c.tc : Thread Cert.MlpMid.nD Cert.MlpMid.τ).loc Cert.MlpMid.main_arg0)
      ∧ r.2.mem ((c.tc : Thread Cert.MlpMid.nD Cert.MlpMid.τ).loc Cert.MlpMid.main_arg1) = m ((c.tc : Thread Cert.MlpMid.nD Cert.MlpMid.τ).loc Cert.MlpMid.main_arg1)
      ∧ r.2.mem ((c.tc : Thread Cert.MlpMid.nD Cert.MlpMid.τ).loc Cert.MlpMid.main_arg2) = m ((c.tc : Thread Cert.MlpMid.nD Cert.MlpMid.τ).loc Cert.MlpMid.main_arg2)
      ∧ r.2.mem ((c.tc : Thread Cert.MlpMid.nD Cert.MlpMid.τ).loc Cert.MlpMid.main_arg3) = m ((c.tc : Thread Cert.MlpMid.nD Cert.MlpMid.τ).loc Cert.MlpMid.main_arg3)
      ∧ r.2.mem ((c.tc : Thread Cert.MlpMid.nD Cert.MlpMid.τ).loc Cert.MlpMid.main_arg4) = m ((c.tc : Thread Cert.MlpMid.nD Cert.MlpMid.τ).loc Cert.MlpMid.main_arg4)
      ∧ r.2.mem ((c.tc : Thread Cert.MlpMid.nD Cert.MlpMid.τ).loc Cert.MlpMid.main_arg5) = m ((c.tc : Thread Cert.MlpMid.nD Cert.MlpMid.τ).loc Cert.MlpMid.main_arg5)
      ∧ r.2.mem ((c.tc : Thread Cert.MlpMid.nD Cert.MlpMid.τ).loc Cert.MlpMid.main_arg6) = m ((c.tc : Thread Cert.MlpMid.nD Cert.MlpMid.τ).loc Cert.MlpMid.main_arg6)
      ∧ r.2.mem ((c.tc : Thread Cert.MlpMid.nD Cert.MlpMid.τ).loc Cert.MlpMid.main_arg7) = m ((c.tc : Thread Cert.MlpMid.nD Cert.MlpMid.τ).loc Cert.MlpMid.main_arg7))
      ∧ r.2.sem = fun _ => 0)

def quiescent_MlpMidIdeal [hMlpMidIdeal : Cert.MlpMidIdeal.Facts] : Prop :=
  ∀ (m : (ℓ : Loc Cert.MlpMidIdeal.nD Cert.MlpMidIdeal.τ Cert.MlpMidIdeal.sig) → Buf (Elt Ideal) ℓ) (g : Dev Cert.MlpMidIdeal.nD → PrngReg), Pre_MlpMidIdeal m →
    θ_run (Cert.MlpMidIdeal.defs (F := Ideal)) (onTc (τ := Cert.MlpMidIdeal.τ) (Cert.MlpMidIdeal.main (F := Ideal))) ⟨m, fun _ => 0, g⟩ (fun r => (∀ c : Dev Cert.MlpMidIdeal.nD,
      r.2.mem ((c.tc : Thread Cert.MlpMidIdeal.nD Cert.MlpMidIdeal.τ).loc Cert.MlpMidIdeal.main_arg0) = m ((c.tc : Thread Cert.MlpMidIdeal.nD Cert.MlpMidIdeal.τ).loc Cert.MlpMidIdeal.main_arg0)
      ∧ r.2.mem ((c.tc : Thread Cert.MlpMidIdeal.nD Cert.MlpMidIdeal.τ).loc Cert.MlpMidIdeal.main_arg1) = m ((c.tc : Thread Cert.MlpMidIdeal.nD Cert.MlpMidIdeal.τ).loc Cert.MlpMidIdeal.main_arg1)
      ∧ r.2.mem ((c.tc : Thread Cert.MlpMidIdeal.nD Cert.MlpMidIdeal.τ).loc Cert.MlpMidIdeal.main_arg2) = m ((c.tc : Thread Cert.MlpMidIdeal.nD Cert.MlpMidIdeal.τ).loc Cert.MlpMidIdeal.main_arg2)
      ∧ r.2.mem ((c.tc : Thread Cert.MlpMidIdeal.nD Cert.MlpMidIdeal.τ).loc Cert.MlpMidIdeal.main_arg3) = m ((c.tc : Thread Cert.MlpMidIdeal.nD Cert.MlpMidIdeal.τ).loc Cert.MlpMidIdeal.main_arg3)
      ∧ r.2.mem ((c.tc : Thread Cert.MlpMidIdeal.nD Cert.MlpMidIdeal.τ).loc Cert.MlpMidIdeal.main_arg4) = m ((c.tc : Thread Cert.MlpMidIdeal.nD Cert.MlpMidIdeal.τ).loc Cert.MlpMidIdeal.main_arg4)
      ∧ r.2.mem ((c.tc : Thread Cert.MlpMidIdeal.nD Cert.MlpMidIdeal.τ).loc Cert.MlpMidIdeal.main_arg5) = m ((c.tc : Thread Cert.MlpMidIdeal.nD Cert.MlpMidIdeal.τ).loc Cert.MlpMidIdeal.main_arg5)
      ∧ r.2.mem ((c.tc : Thread Cert.MlpMidIdeal.nD Cert.MlpMidIdeal.τ).loc Cert.MlpMidIdeal.main_arg6) = m ((c.tc : Thread Cert.MlpMidIdeal.nD Cert.MlpMidIdeal.τ).loc Cert.MlpMidIdeal.main_arg6)
      ∧ r.2.mem ((c.tc : Thread Cert.MlpMidIdeal.nD Cert.MlpMidIdeal.τ).loc Cert.MlpMidIdeal.main_arg7) = m ((c.tc : Thread Cert.MlpMidIdeal.nD Cert.MlpMidIdeal.τ).loc Cert.MlpMidIdeal.main_arg7))
      ∧ r.2.sem = fun _ => 0)

def quiescent_RefMlpMidIdeal [hRefMlpMidIdeal : Cert.RefMlpMidIdeal.Facts] : Prop :=
  ∀ (m : (ℓ : Loc Cert.RefMlpMidIdeal.nD Cert.RefMlpMidIdeal.τ Cert.RefMlpMidIdeal.sig) → Buf (Elt Ideal) ℓ) (g : Dev Cert.RefMlpMidIdeal.nD → PrngReg), Pre_RefMlpMidIdeal m →
    θ_run (Cert.RefMlpMidIdeal.defs (F := Ideal)) (onTc (τ := Cert.RefMlpMidIdeal.τ) (Cert.RefMlpMidIdeal.main (F := Ideal))) ⟨m, fun _ => 0, g⟩ (fun r => (∀ c : Dev Cert.RefMlpMidIdeal.nD,
      r.2.mem ((c.tc : Thread Cert.RefMlpMidIdeal.nD Cert.RefMlpMidIdeal.τ).loc Cert.RefMlpMidIdeal.main_arg0) = m ((c.tc : Thread Cert.RefMlpMidIdeal.nD Cert.RefMlpMidIdeal.τ).loc Cert.RefMlpMidIdeal.main_arg0)
      ∧ r.2.mem ((c.tc : Thread Cert.RefMlpMidIdeal.nD Cert.RefMlpMidIdeal.τ).loc Cert.RefMlpMidIdeal.main_arg1) = m ((c.tc : Thread Cert.RefMlpMidIdeal.nD Cert.RefMlpMidIdeal.τ).loc Cert.RefMlpMidIdeal.main_arg1)
      ∧ r.2.mem ((c.tc : Thread Cert.RefMlpMidIdeal.nD Cert.RefMlpMidIdeal.τ).loc Cert.RefMlpMidIdeal.main_arg2) = m ((c.tc : Thread Cert.RefMlpMidIdeal.nD Cert.RefMlpMidIdeal.τ).loc Cert.RefMlpMidIdeal.main_arg2)
      ∧ r.2.mem ((c.tc : Thread Cert.RefMlpMidIdeal.nD Cert.RefMlpMidIdeal.τ).loc Cert.RefMlpMidIdeal.main_arg3) = m ((c.tc : Thread Cert.RefMlpMidIdeal.nD Cert.RefMlpMidIdeal.τ).loc Cert.RefMlpMidIdeal.main_arg3)
      ∧ r.2.mem ((c.tc : Thread Cert.RefMlpMidIdeal.nD Cert.RefMlpMidIdeal.τ).loc Cert.RefMlpMidIdeal.main_arg4) = m ((c.tc : Thread Cert.RefMlpMidIdeal.nD Cert.RefMlpMidIdeal.τ).loc Cert.RefMlpMidIdeal.main_arg4)
      ∧ r.2.mem ((c.tc : Thread Cert.RefMlpMidIdeal.nD Cert.RefMlpMidIdeal.τ).loc Cert.RefMlpMidIdeal.main_arg5) = m ((c.tc : Thread Cert.RefMlpMidIdeal.nD Cert.RefMlpMidIdeal.τ).loc Cert.RefMlpMidIdeal.main_arg5)
      ∧ r.2.mem ((c.tc : Thread Cert.RefMlpMidIdeal.nD Cert.RefMlpMidIdeal.τ).loc Cert.RefMlpMidIdeal.main_arg6) = m ((c.tc : Thread Cert.RefMlpMidIdeal.nD Cert.RefMlpMidIdeal.τ).loc Cert.RefMlpMidIdeal.main_arg6)
      ∧ r.2.mem ((c.tc : Thread Cert.RefMlpMidIdeal.nD Cert.RefMlpMidIdeal.τ).loc Cert.RefMlpMidIdeal.main_arg7) = m ((c.tc : Thread Cert.RefMlpMidIdeal.nD Cert.RefMlpMidIdeal.τ).loc Cert.RefMlpMidIdeal.main_arg7))
      ∧ r.2.sem = fun _ => 0)

def quiescent_MlpLast [hMlpLast : Cert.MlpLast.Facts] : Prop :=
  ∀ (m : (ℓ : Loc Cert.MlpLast.nD Cert.MlpLast.τ Cert.MlpLast.sig) → Buf (Elt Bits) ℓ) (g : Dev Cert.MlpLast.nD → PrngReg), Pre_MlpLast m →
    θ_run (Cert.MlpLast.defs (F := Bits)) (onTc (τ := Cert.MlpLast.τ) (Cert.MlpLast.main (F := Bits))) ⟨m, fun _ => 0, g⟩ (fun r => (∀ c : Dev Cert.MlpLast.nD,
      r.2.mem ((c.tc : Thread Cert.MlpLast.nD Cert.MlpLast.τ).loc Cert.MlpLast.main_arg0) = m ((c.tc : Thread Cert.MlpLast.nD Cert.MlpLast.τ).loc Cert.MlpLast.main_arg0)
      ∧ r.2.mem ((c.tc : Thread Cert.MlpLast.nD Cert.MlpLast.τ).loc Cert.MlpLast.main_arg1) = m ((c.tc : Thread Cert.MlpLast.nD Cert.MlpLast.τ).loc Cert.MlpLast.main_arg1)
      ∧ r.2.mem ((c.tc : Thread Cert.MlpLast.nD Cert.MlpLast.τ).loc Cert.MlpLast.main_arg2) = m ((c.tc : Thread Cert.MlpLast.nD Cert.MlpLast.τ).loc Cert.MlpLast.main_arg2)
      ∧ r.2.mem ((c.tc : Thread Cert.MlpLast.nD Cert.MlpLast.τ).loc Cert.MlpLast.main_arg3) = m ((c.tc : Thread Cert.MlpLast.nD Cert.MlpLast.τ).loc Cert.MlpLast.main_arg3)
      ∧ r.2.mem ((c.tc : Thread Cert.MlpLast.nD Cert.MlpLast.τ).loc Cert.MlpLast.main_arg4) = m ((c.tc : Thread Cert.MlpLast.nD Cert.MlpLast.τ).loc Cert.MlpLast.main_arg4)
      ∧ r.2.mem ((c.tc : Thread Cert.MlpLast.nD Cert.MlpLast.τ).loc Cert.MlpLast.main_arg5) = m ((c.tc : Thread Cert.MlpLast.nD Cert.MlpLast.τ).loc Cert.MlpLast.main_arg5)
      ∧ r.2.mem ((c.tc : Thread Cert.MlpLast.nD Cert.MlpLast.τ).loc Cert.MlpLast.main_arg6) = m ((c.tc : Thread Cert.MlpLast.nD Cert.MlpLast.τ).loc Cert.MlpLast.main_arg6)
      ∧ r.2.mem ((c.tc : Thread Cert.MlpLast.nD Cert.MlpLast.τ).loc Cert.MlpLast.main_arg7) = m ((c.tc : Thread Cert.MlpLast.nD Cert.MlpLast.τ).loc Cert.MlpLast.main_arg7))
      ∧ r.2.sem = fun _ => 0)

def quiescent_MlpLastIdeal [hMlpLastIdeal : Cert.MlpLastIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg), Pre_MlpLastIdeal m →
    θ_run (Cert.MlpLastIdeal.defs (F := Ideal)) (onTc (τ := Cert.MlpLastIdeal.τ) (Cert.MlpLastIdeal.main (F := Ideal))) ⟨m, fun _ => 0, g⟩ (fun r => (∀ c : Dev Cert.MlpLastIdeal.nD,
      r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
      ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
      ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
      ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
      ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4)
      ∧ r.2.mem ((c.tc : Thread Cert.MlpLastIdeal.nD Cert.MlpLastIdeal.τ).loc Cert.MlpLastIdeal.main_arg5) = m ((c.tc : Thread Cert.MlpLastIdeal.nD Cert.MlpLastIdeal.τ).loc Cert.MlpLastIdeal.main_arg5)
      ∧ r.2.mem ((c.tc : Thread Cert.MlpLastIdeal.nD Cert.MlpLastIdeal.τ).loc Cert.MlpLastIdeal.main_arg6) = m ((c.tc : Thread Cert.MlpLastIdeal.nD Cert.MlpLastIdeal.τ).loc Cert.MlpLastIdeal.main_arg6)
      ∧ r.2.mem ((c.tc : Thread Cert.MlpLastIdeal.nD Cert.MlpLastIdeal.τ).loc Cert.MlpLastIdeal.main_arg7) = m ((c.tc : Thread Cert.MlpLastIdeal.nD Cert.MlpLastIdeal.τ).loc Cert.MlpLastIdeal.main_arg7))
      ∧ r.2.sem = fun _ => 0)

def quiescent_RefMlpLastIdeal [hRefMlpLastIdeal : Cert.RefMlpLastIdeal.Facts] : Prop :=
  ∀ (m : (ℓ : Loc Cert.RefMlpLastIdeal.nD Cert.RefMlpLastIdeal.τ Cert.RefMlpLastIdeal.sig) → Buf (Elt Ideal) ℓ) (g : Dev Cert.RefMlpLastIdeal.nD → PrngReg), Pre_RefMlpLastIdeal m →
    θ_run (Cert.RefMlpLastIdeal.defs (F := Ideal)) (onTc (τ := Cert.RefMlpLastIdeal.τ) (Cert.RefMlpLastIdeal.main (F := Ideal))) ⟨m, fun _ => 0, g⟩ (fun r => (∀ c : Dev Cert.RefMlpLastIdeal.nD,
      r.2.mem ((c.tc : Thread Cert.RefMlpLastIdeal.nD Cert.RefMlpLastIdeal.τ).loc Cert.RefMlpLastIdeal.main_arg0) = m ((c.tc : Thread Cert.RefMlpLastIdeal.nD Cert.RefMlpLastIdeal.τ).loc Cert.RefMlpLastIdeal.main_arg0)
      ∧ r.2.mem ((c.tc : Thread Cert.RefMlpLastIdeal.nD Cert.RefMlpLastIdeal.τ).loc Cert.RefMlpLastIdeal.main_arg1) = m ((c.tc : Thread Cert.RefMlpLastIdeal.nD Cert.RefMlpLastIdeal.τ).loc Cert.RefMlpLastIdeal.main_arg1)
      ∧ r.2.mem ((c.tc : Thread Cert.RefMlpLastIdeal.nD Cert.RefMlpLastIdeal.τ).loc Cert.RefMlpLastIdeal.main_arg2) = m ((c.tc : Thread Cert.RefMlpLastIdeal.nD Cert.RefMlpLastIdeal.τ).loc Cert.RefMlpLastIdeal.main_arg2)
      ∧ r.2.mem ((c.tc : Thread Cert.RefMlpLastIdeal.nD Cert.RefMlpLastIdeal.τ).loc Cert.RefMlpLastIdeal.main_arg3) = m ((c.tc : Thread Cert.RefMlpLastIdeal.nD Cert.RefMlpLastIdeal.τ).loc Cert.RefMlpLastIdeal.main_arg3)
      ∧ r.2.mem ((c.tc : Thread Cert.RefMlpLastIdeal.nD Cert.RefMlpLastIdeal.τ).loc Cert.RefMlpLastIdeal.main_arg4) = m ((c.tc : Thread Cert.RefMlpLastIdeal.nD Cert.RefMlpLastIdeal.τ).loc Cert.RefMlpLastIdeal.main_arg4)
      ∧ r.2.mem ((c.tc : Thread Cert.RefMlpLastIdeal.nD Cert.RefMlpLastIdeal.τ).loc Cert.RefMlpLastIdeal.main_arg5) = m ((c.tc : Thread Cert.RefMlpLastIdeal.nD Cert.RefMlpLastIdeal.τ).loc Cert.RefMlpLastIdeal.main_arg5)
      ∧ r.2.mem ((c.tc : Thread Cert.RefMlpLastIdeal.nD Cert.RefMlpLastIdeal.τ).loc Cert.RefMlpLastIdeal.main_arg6) = m ((c.tc : Thread Cert.RefMlpLastIdeal.nD Cert.RefMlpLastIdeal.τ).loc Cert.RefMlpLastIdeal.main_arg6)
      ∧ r.2.mem ((c.tc : Thread Cert.RefMlpLastIdeal.nD Cert.RefMlpLastIdeal.τ).loc Cert.RefMlpLastIdeal.main_arg7) = m ((c.tc : Thread Cert.RefMlpLastIdeal.nD Cert.RefMlpLastIdeal.τ).loc Cert.RefMlpLastIdeal.main_arg7))
      ∧ r.2.sem = fun _ => 0)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ r.2.sem = fun _ => 0)

def quiescent_RefNormProjIdeal [hRefNormProjIdeal : Cert.RefNormProjIdeal.Facts] : Prop :=
  ∀ (m : (ℓ : Loc Cert.RefNormProjIdeal.nD Cert.RefNormProjIdeal.τ Cert.RefNormProjIdeal.sig) → Buf (Elt Ideal) ℓ) (g : Dev Cert.RefNormProjIdeal.nD → PrngReg), Pre_RefNormProjIdeal m →
    θ_run (Cert.RefNormProjIdeal.defs (F := Ideal)) (onTc (τ := Cert.RefNormProjIdeal.τ) (Cert.RefNormProjIdeal.main (F := Ideal))) ⟨m, fun _ => 0, g⟩ (fun r => (∀ c : Dev Cert.RefNormProjIdeal.nD,
      r.2.mem ((c.tc : Thread Cert.RefNormProjIdeal.nD Cert.RefNormProjIdeal.τ).loc Cert.RefNormProjIdeal.main_arg0) = m ((c.tc : Thread Cert.RefNormProjIdeal.nD Cert.RefNormProjIdeal.τ).loc Cert.RefNormProjIdeal.main_arg0)
      ∧ r.2.mem ((c.tc : Thread Cert.RefNormProjIdeal.nD Cert.RefNormProjIdeal.τ).loc Cert.RefNormProjIdeal.main_arg1) = m ((c.tc : Thread Cert.RefNormProjIdeal.nD Cert.RefNormProjIdeal.τ).loc Cert.RefNormProjIdeal.main_arg1)
      ∧ r.2.mem ((c.tc : Thread Cert.RefNormProjIdeal.nD Cert.RefNormProjIdeal.τ).loc Cert.RefNormProjIdeal.main_arg2) = m ((c.tc : Thread Cert.RefNormProjIdeal.nD Cert.RefNormProjIdeal.τ).loc Cert.RefNormProjIdeal.main_arg2))
      ∧ r.2.sem = fun _ => 0)

def quiescent_NormGlu [hNormGlu : Cert.NormGlu.Facts] : Prop :=
  ∀ (m : (ℓ : Loc Cert.NormGlu.nD Cert.NormGlu.τ Cert.NormGlu.sig) → Buf (Elt Bits) ℓ) (g : Dev Cert.NormGlu.nD → PrngReg), Pre_NormGlu m →
    θ_run (Cert.NormGlu.defs (F := Bits)) (onTc (τ := Cert.NormGlu.τ) (Cert.NormGlu.main (F := Bits))) ⟨m, fun _ => 0, g⟩ (fun r => (∀ c : Dev Cert.NormGlu.nD,
      r.2.mem ((c.tc : Thread Cert.NormGlu.nD Cert.NormGlu.τ).loc Cert.NormGlu.main_arg0) = m ((c.tc : Thread Cert.NormGlu.nD Cert.NormGlu.τ).loc Cert.NormGlu.main_arg0)
      ∧ r.2.mem ((c.tc : Thread Cert.NormGlu.nD Cert.NormGlu.τ).loc Cert.NormGlu.main_arg1) = m ((c.tc : Thread Cert.NormGlu.nD Cert.NormGlu.τ).loc Cert.NormGlu.main_arg1)
      ∧ r.2.mem ((c.tc : Thread Cert.NormGlu.nD Cert.NormGlu.τ).loc Cert.NormGlu.main_arg2) = m ((c.tc : Thread Cert.NormGlu.nD Cert.NormGlu.τ).loc Cert.NormGlu.main_arg2)
      ∧ r.2.mem ((c.tc : Thread Cert.NormGlu.nD Cert.NormGlu.τ).loc Cert.NormGlu.main_arg3) = m ((c.tc : Thread Cert.NormGlu.nD Cert.NormGlu.τ).loc Cert.NormGlu.main_arg3))
      ∧ r.2.sem = fun _ => 0)

def quiescent_NormGluIdeal [hNormGluIdeal : Cert.NormGluIdeal.Facts] : Prop :=
  ∀ (m : (ℓ : Loc Cert.NormGluIdeal.nD Cert.NormGluIdeal.τ Cert.NormGluIdeal.sig) → Buf (Elt Ideal) ℓ) (g : Dev Cert.NormGluIdeal.nD → PrngReg), Pre_NormGluIdeal m →
    θ_run (Cert.NormGluIdeal.defs (F := Ideal)) (onTc (τ := Cert.NormGluIdeal.τ) (Cert.NormGluIdeal.main (F := Ideal))) ⟨m, fun _ => 0, g⟩ (fun r => (∀ c : Dev Cert.NormGluIdeal.nD,
      r.2.mem ((c.tc : Thread Cert.NormGluIdeal.nD Cert.NormGluIdeal.τ).loc Cert.NormGluIdeal.main_arg0) = m ((c.tc : Thread Cert.NormGluIdeal.nD Cert.NormGluIdeal.τ).loc Cert.NormGluIdeal.main_arg0)
      ∧ r.2.mem ((c.tc : Thread Cert.NormGluIdeal.nD Cert.NormGluIdeal.τ).loc Cert.NormGluIdeal.main_arg1) = m ((c.tc : Thread Cert.NormGluIdeal.nD Cert.NormGluIdeal.τ).loc Cert.NormGluIdeal.main_arg1)
      ∧ r.2.mem ((c.tc : Thread Cert.NormGluIdeal.nD Cert.NormGluIdeal.τ).loc Cert.NormGluIdeal.main_arg2) = m ((c.tc : Thread Cert.NormGluIdeal.nD Cert.NormGluIdeal.τ).loc Cert.NormGluIdeal.main_arg2)
      ∧ r.2.mem ((c.tc : Thread Cert.NormGluIdeal.nD Cert.NormGluIdeal.τ).loc Cert.NormGluIdeal.main_arg3) = m ((c.tc : Thread Cert.NormGluIdeal.nD Cert.NormGluIdeal.τ).loc Cert.NormGluIdeal.main_arg3))
      ∧ r.2.sem = fun _ => 0)

def quiescent_RefNormGluIdeal [hRefNormGluIdeal : Cert.RefNormGluIdeal.Facts] : Prop :=
  ∀ (m : (ℓ : Loc Cert.RefNormGluIdeal.nD Cert.RefNormGluIdeal.τ Cert.RefNormGluIdeal.sig) → Buf (Elt Ideal) ℓ) (g : Dev Cert.RefNormGluIdeal.nD → PrngReg), Pre_RefNormGluIdeal m →
    θ_run (Cert.RefNormGluIdeal.defs (F := Ideal)) (onTc (τ := Cert.RefNormGluIdeal.τ) (Cert.RefNormGluIdeal.main (F := Ideal))) ⟨m, fun _ => 0, g⟩ (fun r => (∀ c : Dev Cert.RefNormGluIdeal.nD,
      r.2.mem ((c.tc : Thread Cert.RefNormGluIdeal.nD Cert.RefNormGluIdeal.τ).loc Cert.RefNormGluIdeal.main_arg0) = m ((c.tc : Thread Cert.RefNormGluIdeal.nD Cert.RefNormGluIdeal.τ).loc Cert.RefNormGluIdeal.main_arg0)
      ∧ r.2.mem ((c.tc : Thread Cert.RefNormGluIdeal.nD Cert.RefNormGluIdeal.τ).loc Cert.RefNormGluIdeal.main_arg1) = m ((c.tc : Thread Cert.RefNormGluIdeal.nD Cert.RefNormGluIdeal.τ).loc Cert.RefNormGluIdeal.main_arg1)
      ∧ r.2.mem ((c.tc : Thread Cert.RefNormGluIdeal.nD Cert.RefNormGluIdeal.τ).loc Cert.RefNormGluIdeal.main_arg2) = m ((c.tc : Thread Cert.RefNormGluIdeal.nD Cert.RefNormGluIdeal.τ).loc Cert.RefNormGluIdeal.main_arg2)
      ∧ r.2.mem ((c.tc : Thread Cert.RefNormGluIdeal.nD Cert.RefNormGluIdeal.τ).loc Cert.RefNormGluIdeal.main_arg3) = m ((c.tc : Thread Cert.RefNormGluIdeal.nD Cert.RefNormGluIdeal.τ).loc Cert.RefNormGluIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_RefPrepIdeal [hRefPrepIdeal : Cert.RefPrepIdeal.Facts] : Prop :=
  ∀ (m : (ℓ : Loc Cert.RefPrepIdeal.nD Cert.RefPrepIdeal.τ Cert.RefPrepIdeal.sig) → Buf (Elt Ideal) ℓ) (g : Dev Cert.RefPrepIdeal.nD → PrngReg), Pre_RefPrepIdeal m →
    θ_run (Cert.RefPrepIdeal.defs (F := Ideal)) (onTc (τ := Cert.RefPrepIdeal.τ) (Cert.RefPrepIdeal.main (F := Ideal))) ⟨m, fun _ => 0, g⟩ (fun r => (∀ c : Dev Cert.RefPrepIdeal.nD,
      r.2.mem ((c.tc : Thread Cert.RefPrepIdeal.nD Cert.RefPrepIdeal.τ).loc Cert.RefPrepIdeal.main_arg0) = m ((c.tc : Thread Cert.RefPrepIdeal.nD Cert.RefPrepIdeal.τ).loc Cert.RefPrepIdeal.main_arg0)
      ∧ r.2.mem ((c.tc : Thread Cert.RefPrepIdeal.nD Cert.RefPrepIdeal.τ).loc Cert.RefPrepIdeal.main_arg1) = m ((c.tc : Thread Cert.RefPrepIdeal.nD Cert.RefPrepIdeal.τ).loc Cert.RefPrepIdeal.main_arg1)
      ∧ r.2.mem ((c.tc : Thread Cert.RefPrepIdeal.nD Cert.RefPrepIdeal.τ).loc Cert.RefPrepIdeal.main_arg2) = m ((c.tc : Thread Cert.RefPrepIdeal.nD Cert.RefPrepIdeal.τ).loc Cert.RefPrepIdeal.main_arg2)
      ∧ r.2.mem ((c.tc : Thread Cert.RefPrepIdeal.nD Cert.RefPrepIdeal.τ).loc Cert.RefPrepIdeal.main_arg3) = m ((c.tc : Thread Cert.RefPrepIdeal.nD Cert.RefPrepIdeal.τ).loc Cert.RefPrepIdeal.main_arg3)
      ∧ r.2.mem ((c.tc : Thread Cert.RefPrepIdeal.nD Cert.RefPrepIdeal.τ).loc Cert.RefPrepIdeal.main_arg4) = m ((c.tc : Thread Cert.RefPrepIdeal.nD Cert.RefPrepIdeal.τ).loc Cert.RefPrepIdeal.main_arg4)
      ∧ r.2.mem ((c.tc : Thread Cert.RefPrepIdeal.nD Cert.RefPrepIdeal.τ).loc Cert.RefPrepIdeal.main_arg5) = m ((c.tc : Thread Cert.RefPrepIdeal.nD Cert.RefPrepIdeal.τ).loc Cert.RefPrepIdeal.main_arg5)
      ∧ r.2.mem ((c.tc : Thread Cert.RefPrepIdeal.nD Cert.RefPrepIdeal.τ).loc Cert.RefPrepIdeal.main_arg6) = m ((c.tc : Thread Cert.RefPrepIdeal.nD Cert.RefPrepIdeal.τ).loc Cert.RefPrepIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_RefConvIdeal [hRefConvIdeal : Cert.RefConvIdeal.Facts] : Prop :=
  ∀ (m : (ℓ : Loc Cert.RefConvIdeal.nD Cert.RefConvIdeal.τ Cert.RefConvIdeal.sig) → Buf (Elt Ideal) ℓ) (g : Dev Cert.RefConvIdeal.nD → PrngReg), Pre_RefConvIdeal m →
    θ_run (Cert.RefConvIdeal.defs (F := Ideal)) (onTc (τ := Cert.RefConvIdeal.τ) (Cert.RefConvIdeal.main (F := Ideal))) ⟨m, fun _ => 0, g⟩ (fun r => (∀ c : Dev Cert.RefConvIdeal.nD,
      r.2.mem ((c.tc : Thread Cert.RefConvIdeal.nD Cert.RefConvIdeal.τ).loc Cert.RefConvIdeal.main_arg0) = m ((c.tc : Thread Cert.RefConvIdeal.nD Cert.RefConvIdeal.τ).loc Cert.RefConvIdeal.main_arg0)
      ∧ r.2.mem ((c.tc : Thread Cert.RefConvIdeal.nD Cert.RefConvIdeal.τ).loc Cert.RefConvIdeal.main_arg1) = m ((c.tc : Thread Cert.RefConvIdeal.nD Cert.RefConvIdeal.τ).loc Cert.RefConvIdeal.main_arg1)
      ∧ r.2.mem ((c.tc : Thread Cert.RefConvIdeal.nD Cert.RefConvIdeal.τ).loc Cert.RefConvIdeal.main_arg2) = m ((c.tc : Thread Cert.RefConvIdeal.nD Cert.RefConvIdeal.τ).loc Cert.RefConvIdeal.main_arg2)
      ∧ r.2.mem ((c.tc : Thread Cert.RefConvIdeal.nD Cert.RefConvIdeal.τ).loc Cert.RefConvIdeal.main_arg3) = m ((c.tc : Thread Cert.RefConvIdeal.nD Cert.RefConvIdeal.τ).loc Cert.RefConvIdeal.main_arg3)
      ∧ r.2.mem ((c.tc : Thread Cert.RefConvIdeal.nD Cert.RefConvIdeal.τ).loc Cert.RefConvIdeal.main_arg4) = m ((c.tc : Thread Cert.RefConvIdeal.nD Cert.RefConvIdeal.τ).loc Cert.RefConvIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_MlpMid_MlpMidIdeal : Prop :=
  True

def algebraic_MlpMidIdeal_RefMlpMidIdeal [hMlpMidIdeal : Cert.MlpMidIdeal.Facts] [hRefMlpMidIdeal : Cert.RefMlpMidIdeal.Facts] : Prop :=
  ∀ (m : (ℓ : Loc Cert.MlpMidIdeal.nD Cert.MlpMidIdeal.τ Cert.MlpMidIdeal.sig) → Buf (Elt Ideal) ℓ) (g : Dev Cert.MlpMidIdeal.nD → PrngReg)
    (m' : (ℓ : Loc Cert.RefMlpMidIdeal.nD Cert.RefMlpMidIdeal.τ Cert.RefMlpMidIdeal.sig) → Buf (Elt Ideal) ℓ) (g' : Dev Cert.RefMlpMidIdeal.nD → PrngReg), Pre_MlpMidIdeal m →
    (∀ c : Dev Cert.MlpMidIdeal.nD,
      m' ((c.tc : Thread Cert.RefMlpMidIdeal.nD Cert.RefMlpMidIdeal.τ).loc Cert.RefMlpMidIdeal.main_arg0) = m ((c.tc : Thread Cert.MlpMidIdeal.nD Cert.MlpMidIdeal.τ).loc Cert.MlpMidIdeal.main_arg0)
      ∧ m' ((c.tc : Thread Cert.RefMlpMidIdeal.nD Cert.RefMlpMidIdeal.τ).loc Cert.RefMlpMidIdeal.main_arg1) = m ((c.tc : Thread Cert.MlpMidIdeal.nD Cert.MlpMidIdeal.τ).loc Cert.MlpMidIdeal.main_arg1)
      ∧ m' ((c.tc : Thread Cert.RefMlpMidIdeal.nD Cert.RefMlpMidIdeal.τ).loc Cert.RefMlpMidIdeal.main_arg2) = m ((c.tc : Thread Cert.MlpMidIdeal.nD Cert.MlpMidIdeal.τ).loc Cert.MlpMidIdeal.main_arg2)
      ∧ m' ((c.tc : Thread Cert.RefMlpMidIdeal.nD Cert.RefMlpMidIdeal.τ).loc Cert.RefMlpMidIdeal.main_arg3) = m ((c.tc : Thread Cert.MlpMidIdeal.nD Cert.MlpMidIdeal.τ).loc Cert.MlpMidIdeal.main_arg3)
      ∧ m' ((c.tc : Thread Cert.RefMlpMidIdeal.nD Cert.RefMlpMidIdeal.τ).loc Cert.RefMlpMidIdeal.main_arg4) = m ((c.tc : Thread Cert.MlpMidIdeal.nD Cert.MlpMidIdeal.τ).loc Cert.MlpMidIdeal.main_arg4)
      ∧ m' ((c.tc : Thread Cert.RefMlpMidIdeal.nD Cert.RefMlpMidIdeal.τ).loc Cert.RefMlpMidIdeal.main_arg5) = m ((c.tc : Thread Cert.MlpMidIdeal.nD Cert.MlpMidIdeal.τ).loc Cert.MlpMidIdeal.main_arg5)
      ∧ m' ((c.tc : Thread Cert.RefMlpMidIdeal.nD Cert.RefMlpMidIdeal.τ).loc Cert.RefMlpMidIdeal.main_arg6) = m ((c.tc : Thread Cert.MlpMidIdeal.nD Cert.MlpMidIdeal.τ).loc Cert.MlpMidIdeal.main_arg6)
      ∧ m' ((c.tc : Thread Cert.RefMlpMidIdeal.nD Cert.RefMlpMidIdeal.τ).loc Cert.RefMlpMidIdeal.main_arg7) = m ((c.tc : Thread Cert.MlpMidIdeal.nD Cert.MlpMidIdeal.τ).loc Cert.MlpMidIdeal.main_arg7)) →
    ∃ (v0 : (c : Dev Cert.MlpMidIdeal.nD) → Buf (Elt Ideal) ((c.tc : Thread Cert.MlpMidIdeal.nD Cert.MlpMidIdeal.τ).loc Cert.MlpMidIdeal.main_v8)),
      θ_run (Cert.MlpMidIdeal.defs (F := Ideal)) (onTc (τ := Cert.MlpMidIdeal.τ) (Cert.MlpMidIdeal.main (F := Ideal))) ⟨m, fun _ => 0, g⟩ (fun r => ∀ c : Dev Cert.MlpMidIdeal.nD,
          r.2.mem ((c.tc : Thread Cert.MlpMidIdeal.nD Cert.MlpMidIdeal.τ).loc Cert.MlpMidIdeal.main_v8) = v0 c
          ∧ r.2.mem ((c.tc : Thread Cert.MlpMidIdeal.nD Cert.MlpMidIdeal.τ).loc Cert.MlpMidIdeal.main_arg0) = m ((c.tc : Thread Cert.MlpMidIdeal.nD Cert.MlpMidIdeal.τ).loc Cert.MlpMidIdeal.main_arg0)
          ∧ r.2.mem ((c.tc : Thread Cert.MlpMidIdeal.nD Cert.MlpMidIdeal.τ).loc Cert.MlpMidIdeal.main_arg1) = m ((c.tc : Thread Cert.MlpMidIdeal.nD Cert.MlpMidIdeal.τ).loc Cert.MlpMidIdeal.main_arg1)
          ∧ r.2.mem ((c.tc : Thread Cert.MlpMidIdeal.nD Cert.MlpMidIdeal.τ).loc Cert.MlpMidIdeal.main_arg2) = m ((c.tc : Thread Cert.MlpMidIdeal.nD Cert.MlpMidIdeal.τ).loc Cert.MlpMidIdeal.main_arg2)
          ∧ r.2.mem ((c.tc : Thread Cert.MlpMidIdeal.nD Cert.MlpMidIdeal.τ).loc Cert.MlpMidIdeal.main_arg3) = m ((c.tc : Thread Cert.MlpMidIdeal.nD Cert.MlpMidIdeal.τ).loc Cert.MlpMidIdeal.main_arg3)
          ∧ r.2.mem ((c.tc : Thread Cert.MlpMidIdeal.nD Cert.MlpMidIdeal.τ).loc Cert.MlpMidIdeal.main_arg4) = m ((c.tc : Thread Cert.MlpMidIdeal.nD Cert.MlpMidIdeal.τ).loc Cert.MlpMidIdeal.main_arg4)
          ∧ r.2.mem ((c.tc : Thread Cert.MlpMidIdeal.nD Cert.MlpMidIdeal.τ).loc Cert.MlpMidIdeal.main_arg5) = m ((c.tc : Thread Cert.MlpMidIdeal.nD Cert.MlpMidIdeal.τ).loc Cert.MlpMidIdeal.main_arg5)
          ∧ r.2.mem ((c.tc : Thread Cert.MlpMidIdeal.nD Cert.MlpMidIdeal.τ).loc Cert.MlpMidIdeal.main_arg6) = m ((c.tc : Thread Cert.MlpMidIdeal.nD Cert.MlpMidIdeal.τ).loc Cert.MlpMidIdeal.main_arg6)
          ∧ r.2.mem ((c.tc : Thread Cert.MlpMidIdeal.nD Cert.MlpMidIdeal.τ).loc Cert.MlpMidIdeal.main_arg7) = m ((c.tc : Thread Cert.MlpMidIdeal.nD Cert.MlpMidIdeal.τ).loc Cert.MlpMidIdeal.main_arg7))
      ∧ θ_run (Cert.RefMlpMidIdeal.defs (F := Ideal)) (onTc (τ := Cert.RefMlpMidIdeal.τ) (Cert.RefMlpMidIdeal.main (F := Ideal))) ⟨m', fun _ => 0, g'⟩ (fun r => ∀ c : Dev Cert.RefMlpMidIdeal.nD,
          r.2.mem ((c.tc : Thread Cert.RefMlpMidIdeal.nD Cert.RefMlpMidIdeal.τ).loc Cert.RefMlpMidIdeal.main_v22) = v0 c
          ∧ r.2.mem ((c.tc : Thread Cert.RefMlpMidIdeal.nD Cert.RefMlpMidIdeal.τ).loc Cert.RefMlpMidIdeal.main_arg0) = m' ((c.tc : Thread Cert.RefMlpMidIdeal.nD Cert.RefMlpMidIdeal.τ).loc Cert.RefMlpMidIdeal.main_arg0)
          ∧ r.2.mem ((c.tc : Thread Cert.RefMlpMidIdeal.nD Cert.RefMlpMidIdeal.τ).loc Cert.RefMlpMidIdeal.main_arg1) = m' ((c.tc : Thread Cert.RefMlpMidIdeal.nD Cert.RefMlpMidIdeal.τ).loc Cert.RefMlpMidIdeal.main_arg1)
          ∧ r.2.mem ((c.tc : Thread Cert.RefMlpMidIdeal.nD Cert.RefMlpMidIdeal.τ).loc Cert.RefMlpMidIdeal.main_arg2) = m' ((c.tc : Thread Cert.RefMlpMidIdeal.nD Cert.RefMlpMidIdeal.τ).loc Cert.RefMlpMidIdeal.main_arg2)
          ∧ r.2.mem ((c.tc : Thread Cert.RefMlpMidIdeal.nD Cert.RefMlpMidIdeal.τ).loc Cert.RefMlpMidIdeal.main_arg3) = m' ((c.tc : Thread Cert.RefMlpMidIdeal.nD Cert.RefMlpMidIdeal.τ).loc Cert.RefMlpMidIdeal.main_arg3)
          ∧ r.2.mem ((c.tc : Thread Cert.RefMlpMidIdeal.nD Cert.RefMlpMidIdeal.τ).loc Cert.RefMlpMidIdeal.main_arg4) = m' ((c.tc : Thread Cert.RefMlpMidIdeal.nD Cert.RefMlpMidIdeal.τ).loc Cert.RefMlpMidIdeal.main_arg4)
          ∧ r.2.mem ((c.tc : Thread Cert.RefMlpMidIdeal.nD Cert.RefMlpMidIdeal.τ).loc Cert.RefMlpMidIdeal.main_arg5) = m' ((c.tc : Thread Cert.RefMlpMidIdeal.nD Cert.RefMlpMidIdeal.τ).loc Cert.RefMlpMidIdeal.main_arg5)
          ∧ r.2.mem ((c.tc : Thread Cert.RefMlpMidIdeal.nD Cert.RefMlpMidIdeal.τ).loc Cert.RefMlpMidIdeal.main_arg6) = m' ((c.tc : Thread Cert.RefMlpMidIdeal.nD Cert.RefMlpMidIdeal.τ).loc Cert.RefMlpMidIdeal.main_arg6)
          ∧ r.2.mem ((c.tc : Thread Cert.RefMlpMidIdeal.nD Cert.RefMlpMidIdeal.τ).loc Cert.RefMlpMidIdeal.main_arg7) = m' ((c.tc : Thread Cert.RefMlpMidIdeal.nD Cert.RefMlpMidIdeal.τ).loc Cert.RefMlpMidIdeal.main_arg7))

def preserves_MlpLast_MlpLastIdeal : Prop :=
  True

def algebraic_MlpLastIdeal_RefMlpLastIdeal [hMlpLastIdeal : Cert.MlpLastIdeal.Facts] [hRefMlpLastIdeal : Cert.RefMlpLastIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg)
    (m' : (ℓ : Loc Cert.RefMlpLastIdeal.nD Cert.RefMlpLastIdeal.τ Cert.RefMlpLastIdeal.sig) → Buf (Elt Ideal) ℓ) (g' : Dev Cert.RefMlpLastIdeal.nD → PrngReg), Pre_MlpLastIdeal m →
    (∀ c : Dev Cert.MlpLastIdeal.nD,
      m' ((c.tc : Thread Cert.RefMlpLastIdeal.nD Cert.RefMlpLastIdeal.τ).loc Cert.RefMlpLastIdeal.main_arg0) = m ((c.tc : Thread Cert.MlpLastIdeal.nD Cert.MlpLastIdeal.τ).loc Cert.MlpLastIdeal.main_arg0)
      ∧ m' ((c.tc : Thread Cert.RefMlpLastIdeal.nD Cert.RefMlpLastIdeal.τ).loc Cert.RefMlpLastIdeal.main_arg1) = m ((c.tc : Thread Cert.MlpLastIdeal.nD Cert.MlpLastIdeal.τ).loc Cert.MlpLastIdeal.main_arg1)
      ∧ m' ((c.tc : Thread Cert.RefMlpLastIdeal.nD Cert.RefMlpLastIdeal.τ).loc Cert.RefMlpLastIdeal.main_arg2) = m ((c.tc : Thread Cert.MlpLastIdeal.nD Cert.MlpLastIdeal.τ).loc Cert.MlpLastIdeal.main_arg2)
      ∧ m' ((c.tc : Thread Cert.RefMlpLastIdeal.nD Cert.RefMlpLastIdeal.τ).loc Cert.RefMlpLastIdeal.main_arg3) = m ((c.tc : Thread Cert.MlpLastIdeal.nD Cert.MlpLastIdeal.τ).loc Cert.MlpLastIdeal.main_arg3)
      ∧ m' ((c.tc : Thread Cert.RefMlpLastIdeal.nD Cert.RefMlpLastIdeal.τ).loc Cert.RefMlpLastIdeal.main_arg4) = m ((c.tc : Thread Cert.MlpLastIdeal.nD Cert.MlpLastIdeal.τ).loc Cert.MlpLastIdeal.main_arg4)
      ∧ m' ((c.tc : Thread Cert.RefMlpLastIdeal.nD Cert.RefMlpLastIdeal.τ).loc Cert.RefMlpLastIdeal.main_arg5) = m ((c.tc : Thread Cert.MlpLastIdeal.nD Cert.MlpLastIdeal.τ).loc Cert.MlpLastIdeal.main_arg5)
      ∧ m' ((c.tc : Thread Cert.RefMlpLastIdeal.nD Cert.RefMlpLastIdeal.τ).loc Cert.RefMlpLastIdeal.main_arg6) = m ((c.tc : Thread Cert.MlpLastIdeal.nD Cert.MlpLastIdeal.τ).loc Cert.MlpLastIdeal.main_arg6)
      ∧ m' ((c.tc : Thread Cert.RefMlpLastIdeal.nD Cert.RefMlpLastIdeal.τ).loc Cert.RefMlpLastIdeal.main_arg7) = m ((c.tc : Thread Cert.MlpLastIdeal.nD Cert.MlpLastIdeal.τ).loc Cert.MlpLastIdeal.main_arg7)) →
    ∃ (v0 : (c : Dev Cert.MlpLastIdeal.nD) → Buf (Elt Ideal) ((c.tc : Thread Cert.MlpLastIdeal.nD Cert.MlpLastIdeal.τ).loc Cert.MlpLastIdeal.main_v6)),
      θ_run (Cert.MlpLastIdeal.defs (F := Ideal)) (onTc (τ := Cert.MlpLastIdeal.τ) (Cert.MlpLastIdeal.main (F := Ideal))) ⟨m, fun _ => 0, g⟩ (fun r => ∀ c : Dev Cert.MlpLastIdeal.nD,
          r.2.mem ((c.tc : Thread Cert.MlpLastIdeal.nD Cert.MlpLastIdeal.τ).loc Cert.MlpLastIdeal.main_v6) = v0 c
          ∧ r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
          ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
          ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
          ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
          ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4)
          ∧ r.2.mem ((c.tc : Thread Cert.MlpLastIdeal.nD Cert.MlpLastIdeal.τ).loc Cert.MlpLastIdeal.main_arg5) = m ((c.tc : Thread Cert.MlpLastIdeal.nD Cert.MlpLastIdeal.τ).loc Cert.MlpLastIdeal.main_arg5)
          ∧ r.2.mem ((c.tc : Thread Cert.MlpLastIdeal.nD Cert.MlpLastIdeal.τ).loc Cert.MlpLastIdeal.main_arg6) = m ((c.tc : Thread Cert.MlpLastIdeal.nD Cert.MlpLastIdeal.τ).loc Cert.MlpLastIdeal.main_arg6)
          ∧ r.2.mem ((c.tc : Thread Cert.MlpLastIdeal.nD Cert.MlpLastIdeal.τ).loc Cert.MlpLastIdeal.main_arg7) = m ((c.tc : Thread Cert.MlpLastIdeal.nD Cert.MlpLastIdeal.τ).loc Cert.MlpLastIdeal.main_arg7))
      ∧ θ_run (Cert.RefMlpLastIdeal.defs (F := Ideal)) (onTc (τ := Cert.RefMlpLastIdeal.τ) (Cert.RefMlpLastIdeal.main (F := Ideal))) ⟨m', fun _ => 0, g'⟩ (fun r => ∀ c : Dev Cert.RefMlpLastIdeal.nD,
          r.2.mem ((c.tc : Thread Cert.RefMlpLastIdeal.nD Cert.RefMlpLastIdeal.τ).loc Cert.RefMlpLastIdeal.main_v36) = v0 c
          ∧ r.2.mem ((c.tc : Thread Cert.RefMlpLastIdeal.nD Cert.RefMlpLastIdeal.τ).loc Cert.RefMlpLastIdeal.main_arg0) = m' ((c.tc : Thread Cert.RefMlpLastIdeal.nD Cert.RefMlpLastIdeal.τ).loc Cert.RefMlpLastIdeal.main_arg0)
          ∧ r.2.mem ((c.tc : Thread Cert.RefMlpLastIdeal.nD Cert.RefMlpLastIdeal.τ).loc Cert.RefMlpLastIdeal.main_arg1) = m' ((c.tc : Thread Cert.RefMlpLastIdeal.nD Cert.RefMlpLastIdeal.τ).loc Cert.RefMlpLastIdeal.main_arg1)
          ∧ r.2.mem ((c.tc : Thread Cert.RefMlpLastIdeal.nD Cert.RefMlpLastIdeal.τ).loc Cert.RefMlpLastIdeal.main_arg2) = m' ((c.tc : Thread Cert.RefMlpLastIdeal.nD Cert.RefMlpLastIdeal.τ).loc Cert.RefMlpLastIdeal.main_arg2)
          ∧ r.2.mem ((c.tc : Thread Cert.RefMlpLastIdeal.nD Cert.RefMlpLastIdeal.τ).loc Cert.RefMlpLastIdeal.main_arg3) = m' ((c.tc : Thread Cert.RefMlpLastIdeal.nD Cert.RefMlpLastIdeal.τ).loc Cert.RefMlpLastIdeal.main_arg3)
          ∧ r.2.mem ((c.tc : Thread Cert.RefMlpLastIdeal.nD Cert.RefMlpLastIdeal.τ).loc Cert.RefMlpLastIdeal.main_arg4) = m' ((c.tc : Thread Cert.RefMlpLastIdeal.nD Cert.RefMlpLastIdeal.τ).loc Cert.RefMlpLastIdeal.main_arg4)
          ∧ r.2.mem ((c.tc : Thread Cert.RefMlpLastIdeal.nD Cert.RefMlpLastIdeal.τ).loc Cert.RefMlpLastIdeal.main_arg5) = m' ((c.tc : Thread Cert.RefMlpLastIdeal.nD Cert.RefMlpLastIdeal.τ).loc Cert.RefMlpLastIdeal.main_arg5)
          ∧ r.2.mem ((c.tc : Thread Cert.RefMlpLastIdeal.nD Cert.RefMlpLastIdeal.τ).loc Cert.RefMlpLastIdeal.main_arg6) = m' ((c.tc : Thread Cert.RefMlpLastIdeal.nD Cert.RefMlpLastIdeal.τ).loc Cert.RefMlpLastIdeal.main_arg6)
          ∧ r.2.mem ((c.tc : Thread Cert.RefMlpLastIdeal.nD Cert.RefMlpLastIdeal.τ).loc Cert.RefMlpLastIdeal.main_arg7) = m' ((c.tc : Thread Cert.RefMlpLastIdeal.nD Cert.RefMlpLastIdeal.τ).loc Cert.RefMlpLastIdeal.main_arg7))

def preserves_NormProj_NormProjIdeal : Prop :=
  True

def algebraic_NormProjIdeal_RefNormProjIdeal [hNormProjIdeal : Cert.NormProjIdeal.Facts] [hRefNormProjIdeal : Cert.RefNormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.RefNormProjIdeal.nD Cert.RefNormProjIdeal.τ Cert.RefNormProjIdeal.sig) → Buf (Elt Ideal) ℓ) (g' : Dev Cert.RefNormProjIdeal.nD → PrngReg), Pre_NormProjIdeal m →
    (∀ c : Dev Cert.NormProjIdeal.nD,
      m' ((c.tc : Thread Cert.RefNormProjIdeal.nD Cert.RefNormProjIdeal.τ).loc Cert.RefNormProjIdeal.main_arg0) = m ((c.tc : Thread Cert.NormProjIdeal.nD Cert.NormProjIdeal.τ).loc Cert.NormProjIdeal.main_arg0)
      ∧ m' ((c.tc : Thread Cert.RefNormProjIdeal.nD Cert.RefNormProjIdeal.τ).loc Cert.RefNormProjIdeal.main_arg1) = m ((c.tc : Thread Cert.NormProjIdeal.nD Cert.NormProjIdeal.τ).loc Cert.NormProjIdeal.main_arg1)
      ∧ m' ((c.tc : Thread Cert.RefNormProjIdeal.nD Cert.RefNormProjIdeal.τ).loc Cert.RefNormProjIdeal.main_arg2) = m ((c.tc : Thread Cert.NormProjIdeal.nD Cert.NormProjIdeal.τ).loc Cert.NormProjIdeal.main_arg2)) →
    ∃ (v0 : (c : Dev Cert.NormProjIdeal.nD) → Buf (Elt Ideal) ((c.tc : Thread Cert.NormProjIdeal.nD Cert.NormProjIdeal.τ).loc Cert.NormProjIdeal.main_v2_0)) (v1 : (c : Dev Cert.NormProjIdeal.nD) → Buf (Elt Ideal) ((c.tc : Thread Cert.NormProjIdeal.nD Cert.NormProjIdeal.τ).loc Cert.NormProjIdeal.main_v2_1)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v2_0) = v0 c
          ∧ r.2.mem ((c.tc : Thread Cert.NormProjIdeal.nD Cert.NormProjIdeal.τ).loc Cert.NormProjIdeal.main_v2_1) = v1 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ θ_run (Cert.RefNormProjIdeal.defs (F := Ideal)) (onTc (τ := Cert.RefNormProjIdeal.τ) (Cert.RefNormProjIdeal.main (F := Ideal))) ⟨m', fun _ => 0, g'⟩ (fun r => ∀ c : Dev Cert.RefNormProjIdeal.nD,
          r.2.mem ((c.tc : Thread Cert.RefNormProjIdeal.nD Cert.RefNormProjIdeal.τ).loc Cert.RefNormProjIdeal.main_v14) = v0 c
          ∧ r.2.mem ((c.tc : Thread Cert.RefNormProjIdeal.nD Cert.RefNormProjIdeal.τ).loc Cert.RefNormProjIdeal.main_v15) = v1 c
          ∧ r.2.mem ((c.tc : Thread Cert.RefNormProjIdeal.nD Cert.RefNormProjIdeal.τ).loc Cert.RefNormProjIdeal.main_arg0) = m' ((c.tc : Thread Cert.RefNormProjIdeal.nD Cert.RefNormProjIdeal.τ).loc Cert.RefNormProjIdeal.main_arg0)
          ∧ r.2.mem ((c.tc : Thread Cert.RefNormProjIdeal.nD Cert.RefNormProjIdeal.τ).loc Cert.RefNormProjIdeal.main_arg1) = m' ((c.tc : Thread Cert.RefNormProjIdeal.nD Cert.RefNormProjIdeal.τ).loc Cert.RefNormProjIdeal.main_arg1)
          ∧ r.2.mem ((c.tc : Thread Cert.RefNormProjIdeal.nD Cert.RefNormProjIdeal.τ).loc Cert.RefNormProjIdeal.main_arg2) = m' ((c.tc : Thread Cert.RefNormProjIdeal.nD Cert.RefNormProjIdeal.τ).loc Cert.RefNormProjIdeal.main_arg2))

def preserves_NormGlu_NormGluIdeal : Prop :=
  True

def algebraic_NormGluIdeal_RefNormGluIdeal [hNormGluIdeal : Cert.NormGluIdeal.Facts] [hRefNormGluIdeal : Cert.RefNormGluIdeal.Facts] : Prop :=
  ∀ (m : (ℓ : Loc Cert.NormGluIdeal.nD Cert.NormGluIdeal.τ Cert.NormGluIdeal.sig) → Buf (Elt Ideal) ℓ) (g : Dev Cert.NormGluIdeal.nD → PrngReg)
    (m' : (ℓ : Loc Cert.RefNormGluIdeal.nD Cert.RefNormGluIdeal.τ Cert.RefNormGluIdeal.sig) → Buf (Elt Ideal) ℓ) (g' : Dev Cert.RefNormGluIdeal.nD → PrngReg), Pre_NormGluIdeal m →
    (∀ c : Dev Cert.NormGluIdeal.nD,
      m' ((c.tc : Thread Cert.RefNormGluIdeal.nD Cert.RefNormGluIdeal.τ).loc Cert.RefNormGluIdeal.main_arg0) = m ((c.tc : Thread Cert.NormGluIdeal.nD Cert.NormGluIdeal.τ).loc Cert.NormGluIdeal.main_arg0)
      ∧ m' ((c.tc : Thread Cert.RefNormGluIdeal.nD Cert.RefNormGluIdeal.τ).loc Cert.RefNormGluIdeal.main_arg1) = m ((c.tc : Thread Cert.NormGluIdeal.nD Cert.NormGluIdeal.τ).loc Cert.NormGluIdeal.main_arg1)
      ∧ m' ((c.tc : Thread Cert.RefNormGluIdeal.nD Cert.RefNormGluIdeal.τ).loc Cert.RefNormGluIdeal.main_arg2) = m ((c.tc : Thread Cert.NormGluIdeal.nD Cert.NormGluIdeal.τ).loc Cert.NormGluIdeal.main_arg2)
      ∧ m' ((c.tc : Thread Cert.RefNormGluIdeal.nD Cert.RefNormGluIdeal.τ).loc Cert.RefNormGluIdeal.main_arg3) = m ((c.tc : Thread Cert.NormGluIdeal.nD Cert.NormGluIdeal.τ).loc Cert.NormGluIdeal.main_arg3)) →
    ∃ (v0 : (c : Dev Cert.NormGluIdeal.nD) → Buf (Elt Ideal) ((c.tc : Thread Cert.NormGluIdeal.nD Cert.NormGluIdeal.τ).loc Cert.NormGluIdeal.main_v3)),
      θ_run (Cert.NormGluIdeal.defs (F := Ideal)) (onTc (τ := Cert.NormGluIdeal.τ) (Cert.NormGluIdeal.main (F := Ideal))) ⟨m, fun _ => 0, g⟩ (fun r => ∀ c : Dev Cert.NormGluIdeal.nD,
          r.2.mem ((c.tc : Thread Cert.NormGluIdeal.nD Cert.NormGluIdeal.τ).loc Cert.NormGluIdeal.main_v3) = v0 c
          ∧ r.2.mem ((c.tc : Thread Cert.NormGluIdeal.nD Cert.NormGluIdeal.τ).loc Cert.NormGluIdeal.main_arg0) = m ((c.tc : Thread Cert.NormGluIdeal.nD Cert.NormGluIdeal.τ).loc Cert.NormGluIdeal.main_arg0)
          ∧ r.2.mem ((c.tc : Thread Cert.NormGluIdeal.nD Cert.NormGluIdeal.τ).loc Cert.NormGluIdeal.main_arg1) = m ((c.tc : Thread Cert.NormGluIdeal.nD Cert.NormGluIdeal.τ).loc Cert.NormGluIdeal.main_arg1)
          ∧ r.2.mem ((c.tc : Thread Cert.NormGluIdeal.nD Cert.NormGluIdeal.τ).loc Cert.NormGluIdeal.main_arg2) = m ((c.tc : Thread Cert.NormGluIdeal.nD Cert.NormGluIdeal.τ).loc Cert.NormGluIdeal.main_arg2)
          ∧ r.2.mem ((c.tc : Thread Cert.NormGluIdeal.nD Cert.NormGluIdeal.τ).loc Cert.NormGluIdeal.main_arg3) = m ((c.tc : Thread Cert.NormGluIdeal.nD Cert.NormGluIdeal.τ).loc Cert.NormGluIdeal.main_arg3))
      ∧ θ_run (Cert.RefNormGluIdeal.defs (F := Ideal)) (onTc (τ := Cert.RefNormGluIdeal.τ) (Cert.RefNormGluIdeal.main (F := Ideal))) ⟨m', fun _ => 0, g'⟩ (fun r => ∀ c : Dev Cert.RefNormGluIdeal.nD,
          r.2.mem ((c.tc : Thread Cert.RefNormGluIdeal.nD Cert.RefNormGluIdeal.τ).loc Cert.RefNormGluIdeal.main_v25) = v0 c
          ∧ r.2.mem ((c.tc : Thread Cert.RefNormGluIdeal.nD Cert.RefNormGluIdeal.τ).loc Cert.RefNormGluIdeal.main_arg0) = m' ((c.tc : Thread Cert.RefNormGluIdeal.nD Cert.RefNormGluIdeal.τ).loc Cert.RefNormGluIdeal.main_arg0)
          ∧ r.2.mem ((c.tc : Thread Cert.RefNormGluIdeal.nD Cert.RefNormGluIdeal.τ).loc Cert.RefNormGluIdeal.main_arg1) = m' ((c.tc : Thread Cert.RefNormGluIdeal.nD Cert.RefNormGluIdeal.τ).loc Cert.RefNormGluIdeal.main_arg1)
          ∧ r.2.mem ((c.tc : Thread Cert.RefNormGluIdeal.nD Cert.RefNormGluIdeal.τ).loc Cert.RefNormGluIdeal.main_arg2) = m' ((c.tc : Thread Cert.RefNormGluIdeal.nD Cert.RefNormGluIdeal.τ).loc Cert.RefNormGluIdeal.main_arg2)
          ∧ r.2.mem ((c.tc : Thread Cert.RefNormGluIdeal.nD Cert.RefNormGluIdeal.τ).loc Cert.RefNormGluIdeal.main_arg3) = m' ((c.tc : Thread Cert.RefNormGluIdeal.nD Cert.RefNormGluIdeal.τ).loc Cert.RefNormGluIdeal.main_arg3))

def preserves_Prep_PrepIdeal : Prop :=
  True

def algebraic_PrepIdeal_RefPrepIdeal [hPrepIdeal : Cert.PrepIdeal.Facts] [hRefPrepIdeal : Cert.RefPrepIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.RefPrepIdeal.nD Cert.RefPrepIdeal.τ Cert.RefPrepIdeal.sig) → Buf (Elt Ideal) ℓ) (g' : Dev Cert.RefPrepIdeal.nD → PrngReg), Pre_PrepIdeal m →
    (∀ c : Dev Cert.PrepIdeal.nD,
      m' ((c.tc : Thread Cert.RefPrepIdeal.nD Cert.RefPrepIdeal.τ).loc Cert.RefPrepIdeal.main_arg0) = m ((c.tc : Thread Cert.PrepIdeal.nD Cert.PrepIdeal.τ).loc Cert.PrepIdeal.main_arg0)
      ∧ m' ((c.tc : Thread Cert.RefPrepIdeal.nD Cert.RefPrepIdeal.τ).loc Cert.RefPrepIdeal.main_arg1) = m ((c.tc : Thread Cert.PrepIdeal.nD Cert.PrepIdeal.τ).loc Cert.PrepIdeal.main_arg1)
      ∧ m' ((c.tc : Thread Cert.RefPrepIdeal.nD Cert.RefPrepIdeal.τ).loc Cert.RefPrepIdeal.main_arg2) = m ((c.tc : Thread Cert.PrepIdeal.nD Cert.PrepIdeal.τ).loc Cert.PrepIdeal.main_arg2)
      ∧ m' ((c.tc : Thread Cert.RefPrepIdeal.nD Cert.RefPrepIdeal.τ).loc Cert.RefPrepIdeal.main_arg3) = m ((c.tc : Thread Cert.PrepIdeal.nD Cert.PrepIdeal.τ).loc Cert.PrepIdeal.main_arg3)
      ∧ m' ((c.tc : Thread Cert.RefPrepIdeal.nD Cert.RefPrepIdeal.τ).loc Cert.RefPrepIdeal.main_arg4) = m ((c.tc : Thread Cert.PrepIdeal.nD Cert.PrepIdeal.τ).loc Cert.PrepIdeal.main_arg4)
      ∧ m' ((c.tc : Thread Cert.RefPrepIdeal.nD Cert.RefPrepIdeal.τ).loc Cert.RefPrepIdeal.main_arg5) = m ((c.tc : Thread Cert.PrepIdeal.nD Cert.PrepIdeal.τ).loc Cert.PrepIdeal.main_arg5)
      ∧ m' ((c.tc : Thread Cert.RefPrepIdeal.nD Cert.RefPrepIdeal.τ).loc Cert.RefPrepIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v18_0)) (v1 : (c : Dev Cert.PrepIdeal.nD) → Buf (Elt Ideal) ((c.tc : Thread Cert.PrepIdeal.nD Cert.PrepIdeal.τ).loc Cert.PrepIdeal.main_v18_1)) (v2 : (c : Dev Cert.PrepIdeal.nD) → Buf (Elt Ideal) ((c.tc : Thread Cert.PrepIdeal.nD Cert.PrepIdeal.τ).loc Cert.PrepIdeal.main_v18_2)) (v3 : (c : Dev Cert.PrepIdeal.nD) → Buf (Elt Ideal) ((c.tc : Thread Cert.PrepIdeal.nD Cert.PrepIdeal.τ).loc Cert.PrepIdeal.main_v18_3)) (v4 : (c : Dev Cert.PrepIdeal.nD) → Buf (Elt Ideal) ((c.tc : Thread Cert.PrepIdeal.nD Cert.PrepIdeal.τ).loc Cert.PrepIdeal.main_v18_4)) (v5 : (c : Dev Cert.PrepIdeal.nD) → Buf (Elt Ideal) ((c.tc : Thread Cert.PrepIdeal.nD Cert.PrepIdeal.τ).loc Cert.PrepIdeal.main_v18_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v18_0) = v0 c
          ∧ r.2.mem ((c.tc : Thread Cert.PrepIdeal.nD Cert.PrepIdeal.τ).loc Cert.PrepIdeal.main_v18_1) = v1 c
          ∧ r.2.mem ((c.tc : Thread Cert.PrepIdeal.nD Cert.PrepIdeal.τ).loc Cert.PrepIdeal.main_v18_2) = v2 c
          ∧ r.2.mem ((c.tc : Thread Cert.PrepIdeal.nD Cert.PrepIdeal.τ).loc Cert.PrepIdeal.main_v18_3) = v3 c
          ∧ r.2.mem ((c.tc : Thread Cert.PrepIdeal.nD Cert.PrepIdeal.τ).loc Cert.PrepIdeal.main_v18_4) = v4 c
          ∧ r.2.mem ((c.tc : Thread Cert.PrepIdeal.nD Cert.PrepIdeal.τ).loc Cert.PrepIdeal.main_v18_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.RefPrepIdeal.defs (F := Ideal)) (onTc (τ := Cert.RefPrepIdeal.τ) (Cert.RefPrepIdeal.main (F := Ideal))) ⟨m', fun _ => 0, g'⟩ (fun r => ∀ c : Dev Cert.RefPrepIdeal.nD,
          r.2.mem ((c.tc : Thread Cert.RefPrepIdeal.nD Cert.RefPrepIdeal.τ).loc Cert.RefPrepIdeal.main_v7) = v0 c
          ∧ r.2.mem ((c.tc : Thread Cert.RefPrepIdeal.nD Cert.RefPrepIdeal.τ).loc Cert.RefPrepIdeal.main_v8) = v1 c
          ∧ r.2.mem ((c.tc : Thread Cert.RefPrepIdeal.nD Cert.RefPrepIdeal.τ).loc Cert.RefPrepIdeal.main_v9) = v2 c
          ∧ r.2.mem ((c.tc : Thread Cert.RefPrepIdeal.nD Cert.RefPrepIdeal.τ).loc Cert.RefPrepIdeal.main_v24) = v3 c
          ∧ r.2.mem ((c.tc : Thread Cert.RefPrepIdeal.nD Cert.RefPrepIdeal.τ).loc Cert.RefPrepIdeal.main_v34) = v4 c
          ∧ r.2.mem ((c.tc : Thread Cert.RefPrepIdeal.nD Cert.RefPrepIdeal.τ).loc Cert.RefPrepIdeal.main_v41) = v5 c
          ∧ r.2.mem ((c.tc : Thread Cert.RefPrepIdeal.nD Cert.RefPrepIdeal.τ).loc Cert.RefPrepIdeal.main_arg0) = m' ((c.tc : Thread Cert.RefPrepIdeal.nD Cert.RefPrepIdeal.τ).loc Cert.RefPrepIdeal.main_arg0)
          ∧ r.2.mem ((c.tc : Thread Cert.RefPrepIdeal.nD Cert.RefPrepIdeal.τ).loc Cert.RefPrepIdeal.main_arg1) = m' ((c.tc : Thread Cert.RefPrepIdeal.nD Cert.RefPrepIdeal.τ).loc Cert.RefPrepIdeal.main_arg1)
          ∧ r.2.mem ((c.tc : Thread Cert.RefPrepIdeal.nD Cert.RefPrepIdeal.τ).loc Cert.RefPrepIdeal.main_arg2) = m' ((c.tc : Thread Cert.RefPrepIdeal.nD Cert.RefPrepIdeal.τ).loc Cert.RefPrepIdeal.main_arg2)
          ∧ r.2.mem ((c.tc : Thread Cert.RefPrepIdeal.nD Cert.RefPrepIdeal.τ).loc Cert.RefPrepIdeal.main_arg3) = m' ((c.tc : Thread Cert.RefPrepIdeal.nD Cert.RefPrepIdeal.τ).loc Cert.RefPrepIdeal.main_arg3)
          ∧ r.2.mem ((c.tc : Thread Cert.RefPrepIdeal.nD Cert.RefPrepIdeal.τ).loc Cert.RefPrepIdeal.main_arg4) = m' ((c.tc : Thread Cert.RefPrepIdeal.nD Cert.RefPrepIdeal.τ).loc Cert.RefPrepIdeal.main_arg4)
          ∧ r.2.mem ((c.tc : Thread Cert.RefPrepIdeal.nD Cert.RefPrepIdeal.τ).loc Cert.RefPrepIdeal.main_arg5) = m' ((c.tc : Thread Cert.RefPrepIdeal.nD Cert.RefPrepIdeal.τ).loc Cert.RefPrepIdeal.main_arg5)
          ∧ r.2.mem ((c.tc : Thread Cert.RefPrepIdeal.nD Cert.RefPrepIdeal.τ).loc Cert.RefPrepIdeal.main_arg6) = m' ((c.tc : Thread Cert.RefPrepIdeal.nD Cert.RefPrepIdeal.τ).loc Cert.RefPrepIdeal.main_arg6))

def preserves_Conv_ConvIdeal : Prop :=
  True

def algebraic_ConvIdeal_RefConvIdeal [hConvIdeal : Cert.ConvIdeal.Facts] [hRefConvIdeal : Cert.RefConvIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.RefConvIdeal.nD Cert.RefConvIdeal.τ Cert.RefConvIdeal.sig) → Buf (Elt Ideal) ℓ) (g' : Dev Cert.RefConvIdeal.nD → PrngReg), Pre_ConvIdeal m →
    (∀ c : Dev Cert.ConvIdeal.nD,
      m' ((c.tc : Thread Cert.RefConvIdeal.nD Cert.RefConvIdeal.τ).loc Cert.RefConvIdeal.main_arg0) = m ((c.tc : Thread Cert.ConvIdeal.nD Cert.ConvIdeal.τ).loc Cert.ConvIdeal.main_arg0)
      ∧ m' ((c.tc : Thread Cert.RefConvIdeal.nD Cert.RefConvIdeal.τ).loc Cert.RefConvIdeal.main_arg1) = m ((c.tc : Thread Cert.ConvIdeal.nD Cert.ConvIdeal.τ).loc Cert.ConvIdeal.main_arg1)
      ∧ m' ((c.tc : Thread Cert.RefConvIdeal.nD Cert.RefConvIdeal.τ).loc Cert.RefConvIdeal.main_arg2) = m ((c.tc : Thread Cert.ConvIdeal.nD Cert.ConvIdeal.τ).loc Cert.ConvIdeal.main_arg2)
      ∧ m' ((c.tc : Thread Cert.RefConvIdeal.nD Cert.RefConvIdeal.τ).loc Cert.RefConvIdeal.main_arg3) = m ((c.tc : Thread Cert.ConvIdeal.nD Cert.ConvIdeal.τ).loc Cert.ConvIdeal.main_arg3)
      ∧ m' ((c.tc : Thread Cert.RefConvIdeal.nD Cert.RefConvIdeal.τ).loc Cert.RefConvIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.RefConvIdeal.defs (F := Ideal)) (onTc (τ := Cert.RefConvIdeal.τ) (Cert.RefConvIdeal.main (F := Ideal))) ⟨m', fun _ => 0, g'⟩ (fun r => ∀ c : Dev Cert.RefConvIdeal.nD,
          r.2.mem ((c.tc : Thread Cert.RefConvIdeal.nD Cert.RefConvIdeal.τ).loc Cert.RefConvIdeal.main_v247) = v0 c
          ∧ r.2.mem ((c.tc : Thread Cert.RefConvIdeal.nD Cert.RefConvIdeal.τ).loc Cert.RefConvIdeal.main_arg0) = m' ((c.tc : Thread Cert.RefConvIdeal.nD Cert.RefConvIdeal.τ).loc Cert.RefConvIdeal.main_arg0)
          ∧ r.2.mem ((c.tc : Thread Cert.RefConvIdeal.nD Cert.RefConvIdeal.τ).loc Cert.RefConvIdeal.main_arg1) = m' ((c.tc : Thread Cert.RefConvIdeal.nD Cert.RefConvIdeal.τ).loc Cert.RefConvIdeal.main_arg1)
          ∧ r.2.mem ((c.tc : Thread Cert.RefConvIdeal.nD Cert.RefConvIdeal.τ).loc Cert.RefConvIdeal.main_arg2) = m' ((c.tc : Thread Cert.RefConvIdeal.nD Cert.RefConvIdeal.τ).loc Cert.RefConvIdeal.main_arg2)
          ∧ r.2.mem ((c.tc : Thread Cert.RefConvIdeal.nD Cert.RefConvIdeal.τ).loc Cert.RefConvIdeal.main_arg3) = m' ((c.tc : Thread Cert.RefConvIdeal.nD Cert.RefConvIdeal.τ).loc Cert.RefConvIdeal.main_arg3)
          ∧ r.2.mem ((c.tc : Thread Cert.RefConvIdeal.nD Cert.RefConvIdeal.τ).loc Cert.RefConvIdeal.main_arg4) = m' ((c.tc : Thread Cert.RefConvIdeal.nD Cert.RefConvIdeal.τ).loc Cert.RefConvIdeal.main_arg4))

def Claim : Prop :=
  ∃ (hKernel : Cert.Kernel.Facts) (hKernelIdeal : Cert.KernelIdeal.Facts) (hReferenceIdeal : Cert.ReferenceIdeal.Facts) (hMlpMid : Cert.MlpMid.Facts) (hMlpMidIdeal : Cert.MlpMidIdeal.Facts) (hRefMlpMidIdeal : Cert.RefMlpMidIdeal.Facts) (hMlpLast : Cert.MlpLast.Facts) (hMlpLastIdeal : Cert.MlpLastIdeal.Facts) (hRefMlpLastIdeal : Cert.RefMlpLastIdeal.Facts) (hNormProj : Cert.NormProj.Facts) (hNormProjIdeal : Cert.NormProjIdeal.Facts) (hRefNormProjIdeal : Cert.RefNormProjIdeal.Facts) (hNormGlu : Cert.NormGlu.Facts) (hNormGluIdeal : Cert.NormGluIdeal.Facts) (hRefNormGluIdeal : Cert.RefNormGluIdeal.Facts) (hPrep : Cert.Prep.Facts) (hPrepIdeal : Cert.PrepIdeal.Facts) (hRefPrepIdeal : Cert.RefPrepIdeal.Facts) (hConv : Cert.Conv.Facts) (hConvIdeal : Cert.ConvIdeal.Facts) (hRefConvIdeal : Cert.RefConvIdeal.Facts),
    quiescent_Kernel (hKernel := hKernel)
    ∧ quiescent_KernelIdeal (hKernelIdeal := hKernelIdeal)
    ∧ quiescent_ReferenceIdeal (hReferenceIdeal := hReferenceIdeal)
    ∧ quiescent_MlpMid (hMlpMid := hMlpMid)
    ∧ quiescent_MlpMidIdeal (hMlpMidIdeal := hMlpMidIdeal)
    ∧ quiescent_RefMlpMidIdeal (hRefMlpMidIdeal := hRefMlpMidIdeal)
    ∧ quiescent_MlpLast (hMlpLast := hMlpLast)
    ∧ quiescent_MlpLastIdeal (hMlpLastIdeal := hMlpLastIdeal)
    ∧ quiescent_RefMlpLastIdeal (hRefMlpLastIdeal := hRefMlpLastIdeal)
    ∧ quiescent_NormProj (hNormProj := hNormProj)
    ∧ quiescent_NormProjIdeal (hNormProjIdeal := hNormProjIdeal)
    ∧ quiescent_RefNormProjIdeal (hRefNormProjIdeal := hRefNormProjIdeal)
    ∧ quiescent_NormGlu (hNormGlu := hNormGlu)
    ∧ quiescent_NormGluIdeal (hNormGluIdeal := hNormGluIdeal)
    ∧ quiescent_RefNormGluIdeal (hRefNormGluIdeal := hRefNormGluIdeal)
    ∧ quiescent_Prep (hPrep := hPrep)
    ∧ quiescent_PrepIdeal (hPrepIdeal := hPrepIdeal)
    ∧ quiescent_RefPrepIdeal (hRefPrepIdeal := hRefPrepIdeal)
    ∧ quiescent_Conv (hConv := hConv)
    ∧ quiescent_ConvIdeal (hConvIdeal := hConvIdeal)
    ∧ quiescent_RefConvIdeal (hRefConvIdeal := hRefConvIdeal)
    ∧ preserves_Kernel_KernelIdeal
    ∧ algebraic_KernelIdeal_ReferenceIdeal (hKernelIdeal := hKernelIdeal) (hReferenceIdeal := hReferenceIdeal)
    ∧ preserves_MlpMid_MlpMidIdeal
    ∧ algebraic_MlpMidIdeal_RefMlpMidIdeal (hMlpMidIdeal := hMlpMidIdeal) (hRefMlpMidIdeal := hRefMlpMidIdeal)
    ∧ preserves_MlpLast_MlpLastIdeal
    ∧ algebraic_MlpLastIdeal_RefMlpLastIdeal (hMlpLastIdeal := hMlpLastIdeal) (hRefMlpLastIdeal := hRefMlpLastIdeal)
    ∧ preserves_NormProj_NormProjIdeal
    ∧ algebraic_NormProjIdeal_RefNormProjIdeal (hNormProjIdeal := hNormProjIdeal) (hRefNormProjIdeal := hRefNormProjIdeal)
    ∧ preserves_NormGlu_NormGluIdeal
    ∧ algebraic_NormGluIdeal_RefNormGluIdeal (hNormGluIdeal := hNormGluIdeal) (hRefNormGluIdeal := hRefNormGluIdeal)
    ∧ preserves_Prep_PrepIdeal
    ∧ algebraic_PrepIdeal_RefPrepIdeal (hPrepIdeal := hPrepIdeal) (hRefPrepIdeal := hRefPrepIdeal)
    ∧ preserves_Conv_ConvIdeal
    ∧ algebraic_ConvIdeal_RefConvIdeal (hConvIdeal := hConvIdeal) (hRefConvIdeal := hRefConvIdeal)
-- ==== Kernel.lean ====
abbrev S8x2048x768 : Shape := ⟨3, ![8, 2048, 768]⟩
abbrev S8 : Shape := ⟨1, ![8]⟩
abbrev S8x2048x512 : Shape := ⟨3, ![8, 2048, 512]⟩
abbrev S1x128x512 : Shape := ⟨3, ![1, 128, 512]⟩
abbrev S1x128x256 : Shape := ⟨3, ![1, 128, 256]⟩
abbrev S128x256 : Shape := ⟨2, ![128, 256]⟩
abbrev S256x256 : Shape := ⟨2, ![256, 256]⟩
abbrev S256x128 : Shape := ⟨2, ![256, 128]⟩
abbrev S128x128 : Shape := ⟨2, ![128, 128]⟩
abbrev S256x1 : Shape := ⟨2, ![256, 1]⟩
abbrev S1x128x128 : Shape := ⟨3, ![1, 128, 128]⟩
abbrev S1 : Shape := ⟨1, ![1]⟩
abbrev S256 : Shape := ⟨1, ![256]⟩

abbrev nBuf : Space → Nat
  | .hbm => 3
  | .vmem => 8
  | .smem => 1
  | _ => 0

abbrev bufTy : (tb : Table) → Fin (tcTables nBuf tb) → BufTy
  | .hbm, ⟨0, _⟩ => ⟨S8x2048x768, .f32⟩
  | .hbm, ⟨1, _⟩ => ⟨S8, .f32⟩
  | .hbm, ⟨2, _⟩ => ⟨S8x2048x512, .bf16⟩
  | .local _ .vmem, ⟨0, _⟩ => ⟨S1x128x512, .f32⟩
  | .local _ .vmem, ⟨1, _⟩ => ⟨S1x128x512, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x512, .bf16⟩
  | .local _ .vmem, ⟨7, _⟩ => ⟨S1x128x512, .bf16⟩
  | .local _ .smem, ⟨0, _⟩ => ⟨S8, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  ![arg0.toNat, v1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x2048x768 : Shape := ⟨3, ![8, 2048, 768]⟩
abbrev S8 : Shape := ⟨1, ![8]⟩
abbrev S8x2048x512 : Shape := ⟨3, ![8, 2048, 512]⟩
abbrev S8x2048x8x64 : Shape := ⟨4, ![8, 2048, 8, 64]⟩
abbrev S8x2048x128 : Shape := ⟨3, ![8, 2048, 128]⟩
abbrev S8x2048x2x64 : Shape := ⟨4, ![8, 2048, 2, 64]⟩
abbrev S8x16x128x2x4x64 : Shape := ⟨6, ![8, 16, 128, 2, 4, 64]⟩
abbrev S8x16x128x2x64 : Shape := ⟨5, ![8, 16, 128, 2, 64]⟩
abbrev S8x15x128x2x64 : Shape := ⟨5, ![8, 15, 128, 2, 64]⟩
abbrev S_ : Shape := ⟨0, ![]⟩
abbrev S8x16x256x2x64 : Shape := ⟨5, ![8, 16, 256, 2, 64]⟩
abbrev S8x16x2x256x128x4 : Shape := ⟨6, ![8, 16, 2, 256, 128, 4]⟩
abbrev S8x16x2x4x128x256 : Shape := ⟨6, ![8, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x1x2x4x128x256 : Shape := ⟨6, ![1, 1, 2, 4, 128, 256]⟩
abbrev S1x16x1x1x128x256 : Shape := ⟨6, ![1, 16, 1, 1, 128, 256]⟩
abbrev S1x1x2x4x1x1 : Shape := ⟨6, ![1, 1, 2, 4, 1, 1]⟩
abbrev S8x16x2x4x128 : Shape := ⟨5, ![8, 16, 2, 4, 128]⟩
abbrev S8x16x2x4x128x1 : Shape := ⟨6, ![8, 16, 2, 4, 128, 1]⟩
abbrev S8x16x2x64x4x128 : Shape := ⟨6, ![8, 16, 2, 64, 4, 128]⟩

abbrev nBuf : Space → Nat
  | .hbm => 104
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S8, .f32⟩
  | .hbm, ⟨2, _⟩ => ⟨S8, .f32⟩
  | .hbm, ⟨3, _⟩ => ⟨S8x2048x512, .f32⟩
  | .hbm, ⟨4, _⟩ => ⟨S8x2048x8x64, .f32⟩
  | .hbm, ⟨5, _⟩ => ⟨S8x2048x128, .f32⟩
  | .hbm, ⟨6, _⟩ => ⟨S8x2048x2x64, .f32⟩
  | .hbm, ⟨7, _⟩ => ⟨S8x2048x128, .f32⟩
  | .hbm, ⟨8, _⟩ => ⟨S8x2048x2x64, .f32⟩
  | .hbm, ⟨9, _⟩ => ⟨S8x16x128x2x4x64, .f32⟩
  | .hbm, ⟨10, _⟩ => ⟨S8x16x128x2x64, .f32⟩
  | .hbm, ⟨11, _⟩ => ⟨S8x15x128x2x64, .f32⟩
  | .hbm, ⟨12, _⟩ => ⟨S_, .i32⟩
  | .hbm, ⟨13, _⟩ => ⟨S_, .f32⟩
  | .hbm, ⟨14, _⟩ => ⟨S8x16x128x2x64, .f32⟩
  | .hbm, ⟨15, _⟩ => ⟨S8x16x256x2x64, .f32⟩
  | .hbm, ⟨16, _⟩ => ⟨S8x16x128x2x64, .f32⟩
  | .hbm, ⟨17, _⟩ => ⟨S8x15x128x2x64, .f32⟩
  | .hbm, ⟨18, _⟩ => ⟨S_, .i32⟩
  | .hbm, ⟨19, _⟩ => ⟨S_, .f32⟩
  | .hbm, ⟨20, _⟩ => ⟨S8x16x128x2x64, .f32⟩
  | .hbm, ⟨21, _⟩ => ⟨S8x16x256x2x64, .f32⟩
  | .hbm, ⟨22, _⟩ => ⟨S8x16x2x256x128x4, .f32⟩
  | .hbm, ⟨23, _⟩ => ⟨S8x16x2x4x128x256, .f32⟩
  | .hbm, ⟨24, _⟩ => ⟨S_, .f32⟩
  | .hbm, ⟨25, _⟩ => ⟨S8x16x2x4x128x256, .f32⟩
  | .hbm, ⟨26, _⟩ => ⟨S8x16x2x4x128x256, .f32⟩
  | .hbm, ⟨27, _⟩ => ⟨S128, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i1⟩
  | .hbm, ⟨44, _⟩ => ⟨S16, .i32⟩
  | .hbm, ⟨45, _⟩ => ⟨S16x1, .i32⟩
  | .hbm, ⟨46, _⟩ => ⟨S_, .i32⟩
  | .hbm, ⟨47, _⟩ => ⟨S16x1, .i32⟩
  | .hbm, ⟨48, _⟩ => ⟨S16x1, .i32⟩
  | .hbm, ⟨49, _⟩ => ⟨S256, .i32⟩
  | .hbm, ⟨50, _⟩ => ⟨S1x256, .i32⟩
  | .hbm, ⟨51, _⟩ => ⟨S16x256, .i32⟩
  | .hbm, ⟨52, _⟩ => ⟨S16x256, .i32⟩
  | .hbm, ⟨53, _⟩ => ⟨S16x256, .i32⟩
  | .hbm, ⟨54, _⟩ => ⟨S_, .i32⟩
  | .hbm, ⟨55, _⟩ => ⟨S16x256, .i32⟩
  | .hbm, ⟨56, _⟩ => ⟨S16x256, .i32⟩
  | .hbm, ⟨57, _⟩ => ⟨S1x128x256, .i1⟩
  | .hbm, ⟨58, _⟩ => ⟨S_, .i32⟩
  | .hbm, ⟨59, _⟩ => ⟨S16x256, .i32⟩
  | .hbm, ⟨60, _⟩ => ⟨S16x256, .i1⟩
  | .hbm, ⟨61, _⟩ => ⟨S16x1x256, .i1⟩
  | .hbm, ⟨62, _⟩ => ⟨S16x128x256, .i1⟩
  | .hbm, ⟨63, _⟩ => ⟨S16x128x256, .i1⟩
  | .hbm, ⟨64, _⟩ => ⟨S16x128x256, .i1⟩
  | .hbm, ⟨65, _⟩ => ⟨S2x4, .f32⟩
  | .hbm, ⟨66, _⟩ => ⟨S2x4x1x1, .f32⟩
  | .hbm, ⟨67, _⟩ => ⟨S128x256, .f32⟩
  | .hbm, ⟨68, _⟩ => ⟨S1x1x128x256, .f32⟩
  | .hbm, ⟨69, _⟩ => ⟨S2x4x128x256, .f32⟩
  | .hbm, ⟨70, _⟩ => ⟨S2x4x128x256, .f32⟩
  | .hbm, ⟨71, _⟩ => ⟨S2x4x128x256, .f32⟩
  | .hbm, ⟨72, _⟩ => ⟨S1x1x2x4x128x256, .f32⟩
  | .hbm, ⟨73, _⟩ => ⟨S8x16x2x4x128x256, .f32⟩
  | .hbm, ⟨74, _⟩ => ⟨S8x16x2x4x128x256, .f32⟩
  | .hbm, ⟨75, _⟩ => ⟨S1x16x1x1x128x256, .i1⟩
  | .hbm, ⟨76, _⟩ => ⟨S_, .f32⟩
  | .hbm, ⟨77, _⟩ => ⟨S_, .f32⟩
  | .hbm, ⟨78, _⟩ => ⟨S8x16x2x4x128x256, .i1⟩
  | .hbm, ⟨79, _⟩ => ⟨S8x16x2x4x128x256, .f32⟩
  | .hbm, ⟨80, _⟩ => ⟨S8x16x2x4x128x256, .f32⟩
  | .hbm, ⟨81, _⟩ => ⟨S2x4, .f32⟩
  | .hbm, ⟨82, _⟩ => ⟨S1x1x2x4x1x1, .f32⟩
  | .hbm, ⟨83, _⟩ => ⟨S_, .f32⟩
  | .hbm, ⟨84, _⟩ => ⟨S8x16x2x4x128, .f32⟩
  | .hbm, ⟨85, _⟩ => ⟨S8x16x2x4x128x1, .f32⟩
  | .hbm, ⟨86, _⟩ => ⟨S8x16x2x4x128x1, .f32⟩
  | .hbm, ⟨87, _⟩ => ⟨S8x16x2x4x128x1, .f32⟩
  | .hbm, ⟨88, _⟩ => ⟨S8x16x2x4x128x256, .f32⟩
  | .hbm, ⟨89, _⟩ => ⟨S8x16x2x4x128x256, .f32⟩
  | .hbm, ⟨90, _⟩ => ⟨S8x16x2x4x128x256, .f32⟩
  | .hbm, ⟨91, _⟩ => ⟨S_, .f32⟩
  | .hbm, ⟨92, _⟩ => ⟨S8x16x2x4x128, .f32⟩
  | .hbm, ⟨93, _⟩ => ⟨S8x16x2x4x128x1, .f32⟩
  | .hbm, ⟨94, _⟩ => ⟨S8x16x2x4x128x1, .f32⟩
  | .hbm, ⟨95, _⟩ => ⟨S8x16x2x4x128x1, .f32⟩
  | .hbm, ⟨96, _⟩ => ⟨S8x16x2x4x128x1, .f32⟩
  | .hbm, ⟨97, _⟩ => ⟨S8x16x2x4x128x1, .f32⟩
  | .hbm, ⟨98, _⟩ => ⟨S8x16x2x4x128x256, .f32⟩
  | .hbm, ⟨99, _⟩ => ⟨S8x16x2x4x128x256, .f32⟩
  | .hbm, ⟨100, _⟩ => ⟨S8x16x2x64x4x128, .f32⟩
  | .hbm, ⟨101, _⟩ => ⟨S8x16x128x2x4x64, .f32⟩
  | .hbm, ⟨102, _⟩ => ⟨S8x2048x512, .f32⟩
  | .hbm, ⟨103, _⟩ => ⟨S8x2048x512, .bf16⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_8 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_10 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩

abbrev nD : Nat := 1
abbrev τ : Topo := Topo.v7x

variable {F : FTy → Type} [FloatOps F]
-- ==== MlpMid.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S_ : Shape := ⟨0, ![]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024x1024, .bf16⟩
  | .hbm, ⟨9, _⟩ => ⟨S512x1024, .bf16⟩
  | .hbm, ⟨10, _⟩ => ⟨S512x1024, .bf16⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1024x4096, .bf16⟩
  | .hbm, ⟨15, _⟩ => ⟨S4096x1024, .bf16⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== RefMlpMidIdeal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x4096, .f32⟩
  | .hbm, ⟨30, _⟩ => ⟨S_, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== MlpLast.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1024x4096, .bf16⟩
  | .hbm, ⟨12, _⟩ => ⟨S4096x1024, .bf16⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RefMlpLastIdeal.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S16384x1024, .f32⟩
  | .hbm, ⟨9, _⟩ => ⟨S16384x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x4096, .f32⟩
  | .hbm, ⟨31, _⟩ => ⟨S_, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== NormProj.lean ====
abbrev S16384x1024 : Shape := ⟨2, ![16384, 1024]⟩
abbrev S1024 : Shape := ⟨1, ![1024]⟩
abbrev S1024x2560 : Shape := ⟨2, ![1024, 2560]⟩
abbrev S1x1024 : Shape := ⟨2, ![1, 1024]⟩
abbrev S16384x1792 : Shape := ⟨2, ![16384, 1792]⟩
abbrev S16384x768 : Shape := ⟨2, ![16384, 768]⟩
abbrev S512x1024 : Shape := ⟨2, ![512, 1024]⟩
abbrev S512x1792 : Shape := ⟨2, ![512, 1792]⟩
abbrev S512x768 : Shape := ⟨2, ![512, 768]⟩
abbrev S512 : Shape := ⟨1, ![512]⟩
abbrev S512x1 : Shape := ⟨2, ![512, 1]⟩
abbrev S512x2560 : Shape := ⟨2, ![512, 2560]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S1x1024, .f32⟩
  | .hbm, ⟨4, _⟩ => ⟨S1024x2560, .bf16⟩
  | .hbm, ⟨5, _⟩ => ⟨S16384x1792, .f32⟩
  | .hbm, ⟨6, _⟩ => ⟨S16384x768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x1792, .f32⟩
  | .local _ .vmem, ⟨5, _⟩ => ⟨S512x1792, .f32⟩
  | .local _ .vmem, ⟨6, _⟩ => ⟨S512x768, .f32⟩
  | .local _ .vmem, ⟨7, _⟩ => ⟨S512x768, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefNormProjIdeal.lean ====
abbrev S16384x1024 : Shape := ⟨2, ![16384, 1024]⟩
abbrev S1024 : Shape := ⟨1, ![1024]⟩
abbrev S1024x2560 : Shape := ⟨2, ![1024, 2560]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2560 : Shape := ⟨2, ![16384, 2560]⟩
abbrev S16384x1792 : Shape := ⟨2, ![16384, 1792]⟩
abbrev S16384x768 : Shape := ⟨2, ![16384, 768]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2560, .f32⟩
  | .hbm, ⟨20, _⟩ => ⟨S16384x1792, .f32⟩
  | .hbm, ⟨21, _⟩ => ⟨S16384x768, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== NormGlu.lean ====
abbrev S16384x1024 : Shape := ⟨2, ![16384, 1024]⟩
abbrev S1024 : Shape := ⟨1, ![1024]⟩
abbrev S1024x2048 : Shape := ⟨2, ![1024, 2048]⟩
abbrev S2048 : Shape := ⟨1, ![2048]⟩
abbrev S1x1024 : Shape := ⟨2, ![1, 1024]⟩
abbrev S1x2048 : Shape := ⟨2, ![1, 2048]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S1x1024, .f32⟩
  | .hbm, ⟨5, _⟩ => ⟨S1024x2048, .bf16⟩
  | .hbm, ⟨6, _⟩ => ⟨S1x2048, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefNormGluIdeal.lean ====
abbrev S16384x1024 : Shape := ⟨2, ![16384, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Prep.lean ====
abbrev S8x2048x1792 : Shape := ⟨3, ![8, 2048, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S_ : Shape := ⟨0, ![]⟩
abbrev S256x1536 : Shape := ⟨2, ![256, 1536]⟩
abbrev S1 : Shape := ⟨1, ![1]⟩
abbrev S2 : Shape := ⟨1, ![2]⟩
abbrev S1536 : Shape := ⟨1, ![1536]⟩
abbrev S1x1536 : Shape := ⟨2, ![1, 1536]⟩
abbrev S1x1792 : Shape := ⟨2, ![1, 1792]⟩
abbrev S8x2048x512 : Shape := ⟨3, ![8, 2048, 512]⟩
abbrev S1x512x1792 : Shape := ⟨3, ![1, 512, 1792]⟩
abbrev S1x8x1792 : Shape := ⟨3, ![1, 8, 1792]⟩
abbrev S1x512x512 : Shape := ⟨3, ![1, 512, 512]⟩
abbrev S512x1792 : Shape := ⟨2, ![512, 1792]⟩
abbrev S1x1x1792 : Shape := ⟨3, ![1, 1, 1792]⟩
abbrev S512x512 : Shape := ⟨2, ![512, 512]⟩
abbrev S512x256 : Shape := ⟨2, ![512, 256]⟩
abbrev S512x1536 : Shape := ⟨2, ![512, 1536]⟩

abbrev nBuf : Space → Nat
  | .hbm => 39
  | .vmem => 19
  | .smem => 0
  | _ => 0

abbrev bufTy : (tb : Table) → Fin (tcTables nBuf tb) → BufTy
  | .hbm, ⟨0, _⟩ => ⟨S8x2048x1792, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S_, .f32⟩
  | .hbm, ⟨8, _⟩ => ⟨S256x1536, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S256x1536, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S256x1536, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S256x1536, .f32⟩
  | .hbm, ⟨27, _⟩ => ⟨S_, .f32⟩
  | .hbm, ⟨28, _⟩ => ⟨S512, .f32⟩
  | .hbm, ⟨29, _⟩ => ⟨S1536, .f32⟩
  | .hbm, ⟨30, _⟩ => ⟨S1x1536, .f32⟩
  | .hbm, ⟨31, _⟩ => ⟨S1x1792, .f32⟩
  | .hbm, ⟨32, _⟩ => ⟨S256x1536, .bf16⟩
  | .hbm, ⟨33, _⟩ => ⟨S8x2048x512, .f32⟩
  | .hbm, ⟨34, _⟩ => ⟨S8x2048x512, .f32⟩
  | .hbm, ⟨35, _⟩ => ⟨S8x2048x512, .f32⟩
  | .hbm, ⟨36, _⟩ => ⟨S8x2048x512, .f32⟩
  | .hbm, ⟨37, _⟩ => ⟨S8x2048x512, .f32⟩
  | .hbm, ⟨38, _⟩ => ⟨S8x2048x512, .f32⟩
  | .local _ .vmem, ⟨0, _⟩ => ⟨S1x512x1792, .f32⟩
  | .local _ .vmem, ⟨1, _⟩ => ⟨S1x512x1792, .f32⟩
  | .local _ .vmem, ⟨2, _⟩ => ⟨S1x8x1792, .f32⟩
  | .local _ .vmem, ⟨3, _⟩ => ⟨S1x8x1792, .f32⟩
  | .local _ .vmem, ⟨4, _⟩ => ⟨S1x1792, .f32⟩
  | .local _ .vmem, ⟨5, _⟩ => ⟨S256x1536, .bf16⟩
  | .local _ .vmem, ⟨6, _⟩ => ⟨S1x1536, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | _, _ => ⟨S8x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_c_4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_v18_3 : Ref sig .tc := ⟨.hbm, 36, rfl⟩
abbrev main_v18_4 : Ref sig .tc := ⟨.hbm, 37, rfl⟩
abbrev main_v18_5 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefPrepIdeal.lean ====
abbrev S8x2048x1792 : Shape := ⟨3, ![8, 2048, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x2047x1792 : Shape := ⟨3, ![8, 2047, 1792]⟩
abbrev S_ : Shape := ⟨0, ![]⟩
abbrev S1x1x1792 : Shape := ⟨3, ![1, 1, 1792]⟩
abbrev S8x2048x512 : Shape := ⟨3, ![8, 2048, 512]⟩
abbrev S8x2048x64 : Shape := ⟨3, ![8, 2048, 64]⟩
abbrev S8x2048x128 : Shape := ⟨3, ![8, 2048, 128]⟩
abbrev S1x1x512 : Shape := ⟨3, ![1, 1, 512]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x1792, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S8x2047x1792, .f32⟩
  | .hbm, ⟨8, _⟩ => ⟨S_, .i32⟩
  | .hbm, ⟨9, _⟩ => ⟨S_, .f32⟩
  | .hbm, ⟨10, _⟩ => ⟨S8x2048x1792, .f32⟩
  | .hbm, ⟨11, _⟩ => ⟨S8x2048x1792, .f32⟩
  | .hbm, ⟨12, _⟩ => ⟨S1x1x1792, .f32⟩
  | .hbm, ⟨13, _⟩ => ⟨S8x2048x1792, .f32⟩
  | .hbm, ⟨14, _⟩ => ⟨S8x2048x1792, .f32⟩
  | .hbm, ⟨15, _⟩ => ⟨S8x2048x1792, .f32⟩
  | .hbm, ⟨16, _⟩ => ⟨S8x2048x512, .f32⟩
  | .hbm, ⟨17, _⟩ => ⟨S8x2048x512, .f32⟩
  | .hbm, ⟨18, _⟩ => ⟨S8x2048x512, .f32⟩
  | .hbm, ⟨19, _⟩ => ⟨S8x2048x64, .f32⟩
  | .hbm, ⟨20, _⟩ => ⟨S8x2048x64, .f32⟩
  | .hbm, ⟨21, _⟩ => ⟨S8x2048x128, .f32⟩
  | .hbm, ⟨22, _⟩ => ⟨S8x2048x64, .f32⟩
  | .hbm, ⟨23, _⟩ => ⟨S8x2048x512, .f32⟩
  | .hbm, ⟨24, _⟩ => ⟨S1x1x512, .f32⟩
  | .hbm, ⟨25, _⟩ => ⟨S8x2048x512, .f32⟩
  | .hbm, ⟨26, _⟩ => ⟨S8x2048x512, .f32⟩
  | .hbm, ⟨27, _⟩ => ⟨S8x2048x512, .f32⟩
  | .hbm, ⟨28, _⟩ => ⟨S_, .f32⟩
  | .hbm, ⟨29, _⟩ => ⟨S8x2048x512, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S8x2048x512, .i1⟩
  | .hbm, ⟨34, _⟩ => ⟨S8x2048x512, .f32⟩
  | .hbm, ⟨35, _⟩ => ⟨S8x2048x512, .f32⟩
  | .hbm, ⟨36, _⟩ => ⟨S8x2048x512, .f32⟩
  | .hbm, ⟨37, _⟩ => ⟨S8x2048x512, .f32⟩
  | .hbm, ⟨38, _⟩ => ⟨S8x2048x512, .f32⟩
  | .hbm, ⟨39, _⟩ => ⟨S8x2048x512, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S_, .f32⟩
  | .hbm, ⟨44, _⟩ => ⟨S8x2048x512, .f32⟩
  | .hbm, ⟨45, _⟩ => ⟨S8x2048x512, .f32⟩
  | .hbm, ⟨46, _⟩ => ⟨S8x2048x512, .f32⟩
  | .hbm, ⟨47, _⟩ => ⟨S8x2048x512, .f32⟩
  | .hbm, ⟨48, _⟩ => ⟨S8x2048x512, .f32⟩
  | .hbm, ⟨49, _⟩ => ⟨S1x1x512, .f32⟩
  | .hbm, ⟨50, _⟩ => ⟨S8x2048x512, .f32⟩
  | .hbm, ⟨51, _⟩ => ⟨S8x2048x512, .f32⟩
  | .hbm, ⟨52, _⟩ => ⟨S8x2048x512, .f32⟩
  | .hbm, ⟨53, _⟩ => ⟨S8x2048x512, .f32⟩
  | .hbm, ⟨54, _⟩ => ⟨S_, .f32⟩
  | .hbm, ⟨55, _⟩ => ⟨S8x2048x512, .f32⟩
  | .hbm, ⟨56, _⟩ => ⟨S8x2048x512, .f32⟩
  | .hbm, ⟨57, _⟩ => ⟨S_, .f32⟩
  | .hbm, ⟨58, _⟩ => ⟨S8x2048x512, .f32⟩
  | .hbm, ⟨59, _⟩ => ⟨S8x2048x512, .f32⟩
  | .hbm, ⟨60, _⟩ => ⟨S8x2048x128, .f32⟩
  | .hbm, ⟨61, _⟩ => ⟨S8x2048x128, .f32⟩
  | .hbm, ⟨62, _⟩ => ⟨S_, .f32⟩
  | .hbm, ⟨63, _⟩ => ⟨S8x2048x128, .f32⟩
  | .hbm, ⟨64, _⟩ => ⟨S8x2048x128, .f32⟩
  | .hbm, ⟨65, _⟩ => ⟨S_, .f32⟩
  | .hbm, ⟨66, _⟩ => ⟨S8x2048x128, .f32⟩
  | .hbm, ⟨67, _⟩ => ⟨S8x2048x128, .f32⟩
  | .hbm, ⟨68, _⟩ => ⟨S8x2048x512, .f32⟩
  | _, _ => ⟨S8x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_v19 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_0 : Ref sig .tc := ⟨.hbm, 54, rfl⟩
abbrev main_v31 : Ref sig .tc := ⟨.hbm, 55, rfl⟩
abbrev main_v32 : Ref sig .tc := ⟨.hbm, 56, rfl⟩
abbrev main_cst_1 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_2 : Ref sig .tc := ⟨.hbm, 62, rfl⟩
abbrev main_v37 : Ref sig .tc := ⟨.hbm, 63, rfl⟩
abbrev main_v38 : Ref sig .tc := ⟨.hbm, 64, rfl⟩
abbrev main_cst_3 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]
-- ==== Conv.lean ====
abbrev S8x2048x1024 : Shape := ⟨3, ![8, 2048, 1024]⟩
abbrev S31x1024 : Shape := ⟨2, ![31, 1024]⟩
abbrev S1024 : Shape := ⟨1, ![1024]⟩
abbrev S1x1024 : Shape := ⟨2, ![1, 1024]⟩
abbrev S1x256x1024 : Shape := ⟨3, ![1, 256, 1024]⟩
abbrev S1x32x1024 : Shape := ⟨3, ![1, 32, 1024]⟩
abbrev S288x1024 : Shape := ⟨2, ![288, 1024]⟩
abbrev S256x1024 : Shape := ⟨2, ![256, 1024]⟩
abbrev S32x1024 : Shape := ⟨2, ![32, 1024]⟩
abbrev S64x128 : Shape := ⟨2, ![64, 128]⟩
abbrev S1x128 : Shape := ⟨2, ![1, 128]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8x2048x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x32x1024, .f32⟩
  | .local _ .vmem, ⟨3, _⟩ => ⟨S1x32x1024, .f32⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x256x1024, .bf16⟩
  | .local _ .vmem, ⟨9, _⟩ => ⟨S1x256x1024, .bf16⟩
  | .local _ .vmem, ⟨10, _⟩ => ⟨S288x1024, .f32⟩
  | .local _ .vmem, ⟨11, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefConvIdeal.lean ====
abbrev S8x2048x1024 : Shape := ⟨3, ![8, 2048, 1024]⟩
abbrev S31x1024 : Shape := ⟨2, ![31, 1024]⟩
abbrev S1024 : Shape := ⟨1, ![1024]⟩
abbrev S_ : Shape := ⟨0, ![]⟩
abbrev S8x2078x1024 : Shape := ⟨3, ![8, 2078, 1024]⟩
abbrev S1x1024 : Shape := ⟨2, ![1, 1024]⟩
abbrev S1x1x1024 : Shape := ⟨3, ![1, 1, 1024]⟩
abbrev S8x2048 : Shape := ⟨2, ![8, 2048]⟩
abbrev S8x2048x1 : Shape := ⟨3, ![8, 2048, 1]⟩

abbrev nBuf : Space → Nat
  | .hbm => 269
  | .vmem => 0
  | .smem => 0
  | _ => 0

abbrev hbmTy0_0 (i : Nat) : BufTy := match i % 128 with
  | 0 => ⟨S8x2048x1024, .f32⟩
  | 1 => ⟨S31x1024, .f32⟩
  | 2 => ⟨S1024, .f32⟩
  | 3 => ⟨S1024, .f32⟩
  | 4 => ⟨S1024, .f32⟩
  | 5 => ⟨S_, .i32⟩
  | 6 => ⟨S_, .f32⟩
  | 7 => ⟨S8x2078x1024, .f32⟩
  | 8 => ⟨S8x2048x1024, .f32⟩
  | 9 => ⟨S1x1024, .f32⟩
  | 10 => ⟨S1024, .f32⟩
  | 11 => ⟨S1x1x1024, .f32⟩
  | 12 => ⟨S8x2048x1024, .f32⟩
  | 13 => ⟨S8x2048x1024, .f32⟩
  | 14 => ⟨S_, .f32⟩
  | 15 => ⟨S8x2048x1024, .f32⟩
  | 16 => ⟨S8x2048x1024, .f32⟩
  | 17 => ⟨S8x2048x1024, .f32⟩
  | 18 => ⟨S1x1024, .f32⟩
  | 19 => ⟨S1024, .f32⟩
  | 20 => ⟨S1x1x1024, .f32⟩
  | 21 => ⟨S8x2048x1024, .f32⟩
  | 22 => ⟨S8x2048x1024, .f32⟩
  | 23 => ⟨S8x2048x1024, .f32⟩
  | 24 => ⟨S8x2048x1024, .f32⟩
  | 25 => ⟨S1x1024, .f32⟩
  | 26 => ⟨S1024, .f32⟩
  | 27 => ⟨S1x1x1024, .f32⟩
  | 28 => ⟨S8x2048x1024, .f32⟩
  | 29 => ⟨S8x2048x1024, .f32⟩
  | 30 => ⟨S8x2048x1024, .f32⟩
  | 31 => ⟨S8x2048x1024, .f32⟩
  | 32 => ⟨S1x1024, .f32⟩
  | 33 => ⟨S1024, .f32⟩
  | 34 => ⟨S1x1x1024, .f32⟩
  | 35 => ⟨S8x2048x1024, .f32⟩
  | 36 => ⟨S8x2048x1024, .f32⟩
  | 37 => ⟨S8x2048x1024, .f32⟩
  | 38 => ⟨S8x2048x1024, .f32⟩
  | 39 => ⟨S1x1024, .f32⟩
  | 40 => ⟨S1024, .f32⟩
  | 41 => ⟨S1x1x1024, .f32⟩
  | 42 => ⟨S8x2048x1024, .f32⟩
  | 43 => ⟨S8x2048x1024, .f32⟩
  | 44 => ⟨S8x2048x1024, .f32⟩
  | 45 => ⟨S8x2048x1024, .f32⟩
  | 46 => ⟨S1x1024, .f32⟩
  | 47 => ⟨S1024, .f32⟩
  | 48 => ⟨S1x1x1024, .f32⟩
  | 49 => ⟨S8x2048x1024, .f32⟩
  | 50 => ⟨S8x2048x1024, .f32⟩
  | 51 => ⟨S8x2048x1024, .f32⟩
  | 52 => ⟨S8x2048x1024, .f32⟩
  | 53 => ⟨S1x1024, .f32⟩
  | 54 => ⟨S1024, .f32⟩
  | 55 => ⟨S1x1x1024, .f32⟩
  | 56 => ⟨S8x2048x1024, .f32⟩
  | 57 => ⟨S8x2048x1024, .f32⟩
  | 58 => ⟨S8x2048x1024, .f32⟩
  | 59 => ⟨S8x2048x1024, .f32⟩
  | 60 => ⟨S1x1024, .f32⟩
  | 61 => ⟨S1024, .f32⟩
  | 62 => ⟨S1x1x1024, .f32⟩
  | 63 => ⟨S8x2048x1024, .f32⟩
  | 64 => ⟨S8x2048x1024, .f32⟩
  | 65 => ⟨S8x2048x1024, .f32⟩
  | 66 => ⟨S8x2048x1024, .f32⟩
  | 67 => ⟨S1x1024, .f32⟩
  | 68 => ⟨S1024, .f32⟩
  | 69 => ⟨S1x1x1024, .f32⟩
  | 70 => ⟨S8x2048x1024, .f32⟩
  | 71 => ⟨S8x2048x1024, .f32⟩
  | 72 => ⟨S8x2048x1024, .f32⟩
  | 73 => ⟨S8x2048x1024, .f32⟩
  | 74 => ⟨S1x1024, .f32⟩
  | 75 => ⟨S1024, .f32⟩
  | 76 => ⟨S1x1x1024, .f32⟩
  | 77 => ⟨S8x2048x1024, .f32⟩
  | 78 => ⟨S8x2048x1024, .f32⟩
  | 79 => ⟨S8x2048x1024, .f32⟩
  | 80 => ⟨S8x2048x1024, .f32⟩
  | 81 => ⟨S1x1024, .f32⟩
  | 82 => ⟨S1024, .f32⟩
  | 83 => ⟨S1x1x1024, .f32⟩
  | 84 => ⟨S8x2048x1024, .f32⟩
  | 85 => ⟨S8x2048x1024, .f32⟩
  | 86 => ⟨S8x2048x1024, .f32⟩
  | 87 => ⟨S8x2048x1024, .f32⟩
  | 88 => ⟨S1x1024, .f32⟩
  | 89 => ⟨S1024, .f32⟩
  | 90 => ⟨S1x1x1024, .f32⟩
  | 91 => ⟨S8x2048x1024, .f32⟩
  | 92 => ⟨S8x2048x1024, .f32⟩
  | 93 => ⟨S8x2048x1024, .f32⟩
  | 94 => ⟨S8x2048x1024, .f32⟩
  | 95 => ⟨S1x1024, .f32⟩
  | 96 => ⟨S1024, .f32⟩
  | 97 => ⟨S1x1x1024, .f32⟩
  | 98 => ⟨S8x2048x1024, .f32⟩
  | 99 => ⟨S8x2048x1024, .f32⟩
  | 100 => ⟨S8x2048x1024, .f32⟩
  | 101 => ⟨S8x2048x1024, .f32⟩
  | 102 => ⟨S1x1024, .f32⟩
  | 103 => ⟨S1024, .f32⟩
  | 104 => ⟨S1x1x1024, .f32⟩
  | 105 => ⟨S8x2048x1024, .f32⟩
  | 106 => ⟨S8x2048x1024, .f32⟩
  | 107 => ⟨S8x2048x1024, .f32⟩
  | 108 => ⟨S8x2048x1024, .f32⟩
  | 109 => ⟨S1x1024, .f32⟩
  | 110 => ⟨S1024, .f32⟩
  | 111 => ⟨S1x1x1024, .f32⟩
  | 112 => ⟨S8x2048x1024, .f32⟩
  | 113 => ⟨S8x2048x1024, .f32⟩
  | 114 => ⟨S8x2048x1024, .f32⟩
  | 115 => ⟨S8x2048x1024, .f32⟩
  | 116 => ⟨S1x1024, .f32⟩
  | 117 => ⟨S1024, .f32⟩
  | 118 => ⟨S1x1x1024, .f32⟩
  | 119 => ⟨S8x2048x1024, .f32⟩
  | 120 => ⟨S8x2048x1024, .f32⟩
  | 121 => ⟨S8x2048x1024, .f32⟩
  | 122 => ⟨S8x2048x1024, .f32⟩
  | 123 => ⟨S1x1024, .f32⟩
  | 124 => ⟨S1024, .f32⟩
  | 125 => ⟨S1x1x1024, .f32⟩
  | 126 => ⟨S8x2048x1024, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S1x1024, .f32⟩
  | 3 => ⟨S1024, .f32⟩
  | 4 => ⟨S1x1x1024, .f32⟩
  | 5 => ⟨S8x2048x1024, .f32⟩
  | 6 => ⟨S8x2048x1024, .f32⟩
  | 7 => ⟨S8x2048x1024, .f32⟩
  | 8 => ⟨S8x2048x1024, .f32⟩
  | 9 => ⟨S1x1024, .f32⟩
  | 10 => ⟨S1024, .f32⟩
  | 11 => ⟨S1x1x1024, .f32⟩
  | 12 => ⟨S8x2048x1024, .f32⟩
  | 13 => ⟨S8x2048x1024, .f32⟩
  | 14 => ⟨S8x2048x1024, .f32⟩
  | 15 => ⟨S8x2048x1024, .f32⟩
  | 16 => ⟨S1x1024, .f32⟩
  | 17 => ⟨S1024, .f32⟩
  | 18 => ⟨S1x1x1024, .f32⟩
  | 19 => ⟨S8x2048x1024, .f32⟩
  | 20 => ⟨S8x2048x1024, .f32⟩
  | 21 => ⟨S8x2048x1024, .f32⟩
  | 22 => ⟨S8x2048x1024, .f32⟩
  | 23 => ⟨S1x1024, .f32⟩
  | 24 => ⟨S1024, .f32⟩
  | 25 => ⟨S1x1x1024, .f32⟩
  | 26 => ⟨S8x2048x1024, .f32⟩
  | 27 => ⟨S8x2048x1024, .f32⟩
  | 28 => ⟨S8x2048x1024, .f32⟩
  | 29 => ⟨S8x2048x1024, .f32⟩
  | 30 => ⟨S1x1024, .f32⟩
  | 31 => ⟨S1024, .f32⟩
  | 32 => ⟨S1x1x1024, .f32⟩
  | 33 => ⟨S8x2048x1024, .f32⟩
  | 34 => ⟨S8x2048x1024, .f32⟩
  | 35 => ⟨S8x2048x1024, .f32⟩
  | 36 => ⟨S8x2048x1024, .f32⟩
  | 37 => ⟨S1x1024, .f32⟩
  | 38 => ⟨S1024, .f32⟩
  | 39 => ⟨S1x1x1024, .f32⟩
  | 40 => ⟨S8x2048x1024, .f32⟩
  | 41 => ⟨S8x2048x1024, .f32⟩
  | 42 => ⟨S8x2048x1024, .f32⟩
  | 43 => ⟨S8x2048x1024, .f32⟩
  | 44 => ⟨S1x1024, .f32⟩
  | 45 => ⟨S1024, .f32⟩
  | 46 => ⟨S1x1x1024, .f32⟩
  | 47 => ⟨S8x2048x1024, .f32⟩
  | 48 => ⟨S8x2048x1024, .f32⟩
  | 49 => ⟨S8x2048x1024, .f32⟩
  | 50 => ⟨S8x2048x1024, .f32⟩
  | 51 => ⟨S1x1024, .f32⟩
  | 52 => ⟨S1024, .f32⟩
  | 53 => ⟨S1x1x1024, .f32⟩
  | 54 => ⟨S8x2048x1024, .f32⟩
  | 55 => ⟨S8x2048x1024, .f32⟩
  | 56 => ⟨S8x2048x1024, .f32⟩
  | 57 => ⟨S8x2048x1024, .f32⟩
  | 58 => ⟨S1x1024, .f32⟩
  | 59 => ⟨S1024, .f32⟩
  | 60 => ⟨S1x1x1024, .f32⟩
  | 61 => ⟨S8x2048x1024, .f32⟩
  | 62 => ⟨S8x2048x1024, .f32⟩
  | 63 => ⟨S8x2048x1024, .f32⟩
  | 64 => ⟨S8x2048x1024, .f32⟩
  | 65 => ⟨S1x1024, .f32⟩
  | 66 => ⟨S1024, .f32⟩
  | 67 => ⟨S1x1x1024, .f32⟩
  | 68 => ⟨S8x2048x1024, .f32⟩
  | 69 => ⟨S8x2048x1024, .f32⟩
  | 70 => ⟨S8x2048x1024, .f32⟩
  | 71 => ⟨S8x2048x1024, .f32⟩
  | 72 => ⟨S1x1024, .f32⟩
  | 73 => ⟨S1024, .f32⟩
  | 74 => ⟨S1x1x1024, .f32⟩
  | 75 => ⟨S8x2048x1024, .f32⟩
  | 76 => ⟨S8x2048x1024, .f32⟩
  | 77 => ⟨S8x2048x1024, .f32⟩
  | 78 => ⟨S8x2048x1024, .f32⟩
  | 79 => ⟨S1x1024, .f32⟩
  | 80 => ⟨S1024, .f32⟩
  | 81 => ⟨S1x1x1024, .f32⟩
  | 82 => ⟨S8x2048x1024, .f32⟩
  | 83 => ⟨S8x2048x1024, .f32⟩
  | 84 => ⟨S8x2048x1024, .f32⟩
  | 85 => ⟨S8x2048x1024, .f32⟩
  | 86 => ⟨S1x1024, .f32⟩
  | 87 => ⟨S1024, .f32⟩
  | 88 => ⟨S1x1x1024, .f32⟩
  | 89 => ⟨S8x2048x1024, .f32⟩
  | 90 => ⟨S8x2048x1024, .f32⟩
  | 91 => ⟨S8x2048x1024, .f32⟩
  | 92 => ⟨S8x2048x1024, .f32⟩
  | 93 => ⟨S1x1024, .f32⟩
  | 94 => ⟨S1024, .f32⟩
  | 95 => ⟨S1x1x1024, .f32⟩
  | 96 => ⟨S8x2048x1024, .f32⟩
  | 97 => ⟨S8x2048x1024, .f32⟩
  | 98 => ⟨S8x2048x1024, .f32⟩
  | 99 => ⟨S1x1x1024, .f32⟩
  | 100 => ⟨S8x2048x1024, .f32⟩
  | 101 => ⟨S8x2048x1024, .f32⟩
  | 102 => ⟨S_, .f32⟩
  | 103 => ⟨S8x2048, .f32⟩
  | 104 => ⟨S8x2048x1, .f32⟩
  | 105 => ⟨S_, .f32⟩
  | 106 => ⟨S8x2048x1, .f32⟩
  | 107 => ⟨S8x2048x1, .f32⟩
  | 108 => ⟨S8x2048x1024, .f32⟩
  | 109 => ⟨S8x2048x1024, .f32⟩
  | 110 => ⟨S8x2048x1024, .f32⟩
  | 111 => ⟨S_, .f32⟩
  | 112 => ⟨S8x2048, .f32⟩
  | 113 => ⟨S8x2048x1, .f32⟩
  | 114 => ⟨S_, .f32⟩
  | 115 => ⟨S8x2048x1, .f32⟩
  | 116 => ⟨S8x2048x1, .f32⟩
  | 117 => ⟨S8x2048x1024, .f32⟩
  | 118 => ⟨S8x2048x1024, .f32⟩
  | 119 => ⟨S_, .f32⟩
  | 120 => ⟨S8x2048x1, .f32⟩
  | 121 => ⟨S8x2048x1, .f32⟩
  | 122 => ⟨S8x2048x1, .f32⟩
  | 123 => ⟨S8x2048x1024, .f32⟩
  | 124 => ⟨S8x2048x1024, .f32⟩
  | 125 => ⟨S1x1x1024, .f32⟩
  | 126 => ⟨S8x2048x1024, .f32⟩
  | 127 => ⟨S8x2048x1024, .f32⟩
  | _ => ⟨S8x2048x1024, .f32⟩

abbrev hbmTy0_2 (i : Nat) : BufTy := match i % 128 with
  | 0 => ⟨S1x1x1024, .f32⟩
  | 1 => ⟨S8x2048x1024, .f32⟩
  | 2 => ⟨S8x2048x1024, .f32⟩
  | 3 => ⟨S8x2048x1024, .f32⟩
  | 4 => ⟨S8x2048x1024, .f32⟩
  | 5 => ⟨S_, .f32⟩
  | 6 => ⟨S8x2048x1024, .f32⟩
  | 7 => ⟨S8x2048x1024, .f32⟩
  | 8 => ⟨S_, .f32⟩
  | 9 => ⟨S8x2048x1024, .f32⟩
  | 10 => ⟨S8x2048x1024, .f32⟩
  | 11 => ⟨S8x2048x1024, .f32⟩
  | 12 => ⟨S8x2048x1024, .bf16⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_cst_0 : Ref sig .tc := ⟨.hbm, 230, rfl⟩
abbrev main_v222 : Ref sig .tc := ⟨.hbm, 231, rfl⟩
abbrev main_v223 : Ref sig .tc := ⟨.hbm, 232, rfl⟩
abbrev main_cst_1 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_cst_2 : Ref sig .tc := ⟨.hbm, 239, rfl⟩
abbrev main_v229 : Ref sig .tc := ⟨.hbm, 240, rfl⟩
abbrev main_v230 : Ref sig .tc := ⟨.hbm, 241, rfl⟩
abbrev main_cst_3 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_cst_4 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_call1_v0 : Ref sig .tc := ⟨.hbm, 259, rfl⟩
abbrev main_call1_v1 : Ref sig .tc := ⟨.hbm, 260, rfl⟩
abbrev main_call1_cst : Ref sig .tc := ⟨.hbm, 261, rfl⟩
abbrev main_call1_v2 : Ref sig .tc := ⟨.hbm, 262, rfl⟩
abbrev main_call1_v3 : Ref sig .tc := ⟨.hbm, 263, rfl⟩
abbrev main_call1_cst_0 : Ref sig .tc := ⟨.hbm, 264, rfl⟩
abbrev main_call1_v4 : Ref sig .tc := ⟨.hbm, 265, rfl⟩
abbrev main_call1_v5 : Ref sig .tc := ⟨.hbm, 266, rfl⟩
abbrev main_v246 : Ref sig .tc := ⟨.hbm, 267, rfl⟩
abbrev main_v247 : Ref sig .tc := ⟨.hbm, 268, rfl⟩

abbrev nD : Nat := 1
abbrev τ : Topo := Topo.v7x

variable {F : FTy → Type} [FloatOps F]
-- ==== Proof.Attn.Spec.lean ====
/-
  Attention over a window of 256 keys with one extra logit (the sink), for one query and one lane of the values,
  as a function of extended reals; and the two laws by which the kernel's arrangement and the reference's agree.
-/
module

public import Idealize.ShloMosaic.Lib.Pointwise

@[expose] public section

noncomputable section

namespace Cert.Attn
open Idealize.ShloMosaic

/-- Query position minus key position, for query `q` of a block and key `c` of the pair (previous block, this block),
    as the 32-bit word that both programs compute. -/
def relW (q c : ℕ) : BitVec 32 := IntOp.subi (IntOp.addi (BitVec.ofNat 32 q) 128#32) (BitVec.ofNat 32 c)

/-- The bit that says that key `c` is seen by query `q` of block `n`: the distance is in `[0, 128)` and the key exists. -/
def okW (n q c : ℕ) : BitVec 1 :=
  IntOp.andi (IntOp.andi (IntOp.cmpi .sge (relW q c) 0#32) (IntOp.cmpi .slt (relW q c) 128#32))
    (IntOp.ori (IntOp.cmpi .sge (BitVec.ofNat 32 c) 128#32) (IntOp.cmpi .sgt (BitVec.ofNat 32 n) 0#32))

/-- The score of one key: the scaled product less the slope times the distance where the key is seen, else `⊥`. -/
def score (n q : ℕ) (Q : Fin 64 → EReal) (K : Fin 256 → Fin 64 → EReal) (sl : EReal) (c : Fin 256) : EReal :=
  Scalar.select (okW n q c)
    ((∑ d, Q d * K c d) * Ideal.ofBits .f32 0x3E000000#32 - sl * FloatOps.sitofp (F := Ideal) .f32 (relW q c))
    (Ideal.ofBits .f32 0xFF800000#32)

/-- The largest of the scores and the sink. -/
def top (s : Fin 256 → EReal) (sink : EReal) : EReal :=
  max (Finset.fold max (Ideal.ofBits .f32 0xFF800000#32) s Finset.univ) sink

/-- The softmax's denominator with the sink's term. -/
def den (s : Fin 256 → EReal) (sink : EReal) : EReal :=
  ∑ c, Ideal.exp (s c - top s sink) + Ideal.exp (sink - top s sink)

/-- The weighted sum of the values `v` by the softmax of the scores `s` with the sink. -/
def mix (s : Fin 256 → EReal) (sink : EReal) (v : Fin 256 → EReal) : EReal :=
  ∑ c, Ideal.div (Ideal.exp (s c - top s sink)) (den s sink) * v c

/-- The word of the bits of minus infinity is `⊥`. -/
theorem ofBits_ninf : Ideal.ofBits .f32 0xFF800000#32 = ⊥ := by
  simp [Ideal.ofBits, Ideal.ieee]

/-- The word `0x3E000000` is one eighth. -/
theorem ofBits_eighth : Ideal.ofBits .f32 0x3E000000#32 = ((1 / 8 : ℝ) : EReal) := by
  simp [Ideal.ofBits, Ideal.ieee, -EReal.coe_mul]; norm_num

/-- A finite factor that is not negative comes out of a sum. -/
theorem sum_mul_const {ι : Type} (s : Finset ι) (f : ι → EReal) (c : EReal) (h0 : 0 ≤ c) (ht : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top h0 ht]

/-- The scale of the queries may be applied to the product instead. -/
theorem sum_scale (Q K : Fin 64 → EReal) :
    ∑ d, Q d * Ideal.ofBits .f32 0x3E000000#32 * K d = (∑ d, Q d * K d) * Ideal.ofBits .f32 0x3E000000#32 := by
  rw [← sum_mul_const _ _ _ (by rw [ofBits_eighth]; exact_mod_cast (by norm_num : (0 : ℝ) ≤ 1 / 8))
    (by rw [ofBits_eighth]; exact EReal.coe_ne_top _)]
  exact Finset.sum_congr rfl fun d _ => by rw [mul_right_comm]

/-- Keys before the first block are not seen. -/
theorem okW_first (q : ℕ) (c : ℕ) (hc : c < 128) : okW 0 q c = 0#1 := by
  have h : IntOp.ori (IntOp.cmpi .sge (BitVec.ofNat 32 c) 128#32) (IntOp.cmpi .sgt (BitVec.ofNat 32 0) 0#32) = 0#1 := by
    revert c; decide +kernel
  rw [okW, h]
  simp [IntOp.andi]

/-- A key that is not seen has the score `⊥` whatever its contents. -/
theorem score_first (q : ℕ) (Q : Fin 64 → EReal) (K : Fin 256 → Fin 64 → EReal) (sl : EReal) (c : Fin 256)
    (hc : c.val < 128) : score 0 q Q K sl c = ⊥ := by
  rw [score, okW_first q c hc, ofBits_ninf]; rfl

/-- The exponential of an extended real is not negative. -/
theorem exp_nonneg (x : EReal) : 0 ≤ Ideal.exp x := by
  induction x with
  | bot => exact le_refl (0 : EReal)
  | top => exact le_top
  | coe x => exact EReal.coe_nonneg.mpr (Real.exp_pos x).le

/-- A sum of products with `⊥` is `⊥`, `0` or `⊤`, so that adding it to itself changes nothing. -/
theorem sum_bot_mul_idem {ι : Type} (s : Finset ι) (v : ι → EReal) :
    ∑ i ∈ s, ⊥ * v i + ∑ i ∈ s, ⊥ * v i = ∑ i ∈ s, ⊥ * v i := by
  rw [← Finset.sum_add_distrib]
  refine Finset.sum_congr rfl fun i _ => ?_
  induction v i with
  | bot => simp
  | top => simp
  | coe x =>
    rcases lt_trichotomy x 0 with h | h | h
    · simp [EReal.bot_mul_coe_of_neg h]
    · subst h; simp
    · simp [EReal.bot_mul_coe_of_pos h]

/-- The keys before the first block count for nothing: their weights are `0`, or every weight is `⊥` and the block's
    own keys give the same sum already. So the values read there may be the block's own or zeros. -/
theorem mix_first (s : Fin 256 → EReal) (sink : EReal) (v w : Fin 256 → EReal)
    (hs : ∀ c : Fin 256, c.val < 128 → s c = ⊥)
    (hv : ∀ c : Fin 128, v ⟨c, by omega⟩ = v ⟨128 + c, by omega⟩)
    (hw : ∀ c : Fin 128, w ⟨c, by omega⟩ = 0) (hvw : ∀ c : Fin 128, v ⟨128 + c, by omega⟩ = w ⟨128 + c, by omega⟩) :
    mix s sink v = mix s sink w := by
  have cut : ∀ f : Fin 256 → EReal, ∑ c, f c = ∑ c : Fin 128, f ⟨c, by omega⟩ + ∑ c : Fin 128, f ⟨128 + c, by omega⟩ :=
    fun f => Fin.sum_univ_add (a := 128) (b := 128) f
  unfold mix
  by_cases hd : den s sink = 0
  · have hz : ∀ c, Ideal.exp (s c - top s sink) = 0 := by
      intro c
      have h1 : ∑ c, Ideal.exp (s c - top s sink) = 0 := by
        refine le_antisymm ?_ (Finset.sum_nonneg fun c _ => exp_nonneg _)
        calc _ ≤ den s sink := le_add_of_nonneg_right (exp_nonneg _)
          _ = 0 := hd
      exact (Finset.sum_eq_zero_iff_of_nonneg fun c _ => exp_nonneg _).mp h1 c (Finset.mem_univ _)
    have hb : ∀ c, Ideal.div (Ideal.exp (s c - top s sink)) (den s sink) = ⊥ := by
      intro c; rw [hz, hd]; simp [Ideal.div]
    simp only [hb]
    rw [cut, cut]
    simp only [hv, hw, hvw, mul_zero, Finset.sum_const_zero, zero_add]
    exact sum_bot_mul_idem _ _
  · have hb : ∀ c : Fin 128, Ideal.div (Ideal.exp (s ⟨c, by omega⟩ - top s sink)) (den s sink) = 0 := by
      intro c
      rw [hs _ c.isLt, EReal.bot_sub, Ideal.exp_bot, Ideal.div, if_neg hd, zero_mul]
    rw [cut, cut]
    simp only [hb, zero_mul, Finset.sum_const_zero, zero_add, hvw]

/-- Two arrangements of the keys and values that agree from the block's own keys on, and before them either agree or
    stand before the first block, give the same result. -/
theorem mix_congr (n q : ℕ) (Q : Fin 64 → EReal) (K K' : Fin 256 → Fin 64 → EReal) (sl sink : EReal)
    (v v' : Fin 256 → EReal)
    (hK : ∀ c : Fin 256, (128 ≤ c.val ∨ n ≠ 0) → K c = K' c)
    (hV : ∀ c : Fin 256, (128 ≤ c.val ∨ n ≠ 0) → v c = v' c)
    (hv : n = 0 → ∀ c : Fin 128, v ⟨c, by omega⟩ = v ⟨128 + c, by omega⟩)
    (hz : n = 0 → ∀ c : Fin 128, v' ⟨c, by omega⟩ = 0) :
    mix (score n q Q K sl) sink v = mix (score n q Q K' sl) sink v' := by
  have hs : score n q Q K sl = score n q Q K' sl := by
    funext c
    by_cases h : 128 ≤ c.val ∨ n ≠ 0
    · simp only [score, hK c h]
    · have hc : c.val < 128 := by omega
      have hn : n = 0 := by omega
      subst hn
      rw [score_first q Q K sl c hc, score_first q Q K' sl c hc]
  rw [hs]
  by_cases hn : n = 0
  · subst hn
    exact mix_first _ _ _ _ (fun c hc => score_first q Q K' sl c hc) (hv rfl) (hz rfl)
      (fun c => hV _ (.inl (by simp)))
  · rw [show v = v' from funext fun c => hV c (.inr hn)]

end Cert.Attn
-- ==== Proof.Attn.Pay.lean ====
/-
  The attention kernel's four stores, each read at an index down to the function of `Spec`: a store holds the two heads
  of one pair, the first on the lanes below 64.
-/
module

public import proofs.«01_k».proof.Proof.Gen.KernelIdeal.Skeleton
public import proofs.«01_k».proof.Proof.Attn.Spec

@[expose] public section

set_option maxRecDepth 16384

noncomputable section

namespace Cert.Attn
open Idealize.ShloMosaic Cert.KernelIdeal Cert.KernelIdeal.Gen
open Idealize.ShloMosaic.TcCoe

/-- The comparison of a small index with a bound, as a choice. -/
theorem sel_lt {α : Type} (N : ℕ) (hN : N < 2 ^ 31) (a : ℕ) (ha : a < 2 ^ 31) (x y : α) :
    Scalar.select (IntOp.cmpi .slt (BitVec.ofNat 32 a) (BitVec.ofNat 32 N)) x y = if a < N then x else y := by
  have h : (BitVec.ofNat 32 a).slt (BitVec.ofNat 32 N) = decide (a < N) := by
    have e : ∀ n : ℕ, n < 2 ^ 31 → (BitVec.ofNat 32 n).toInt = n := by
      intro n hn
      rw [BitVec.toInt_eq_toNat_of_lt (by rw [BitVec.toNat_ofNat]; omega), BitVec.toNat_ofNat]
      congr 1; omega
    rw [BitVec.slt, e a ha, e N hN]
    simp
  simp only [Scalar.select, IntOp.cmpi, h]
  by_cases hc : a < N <;> simp [hc]

/-- The keys (columns 0 to 127) and values (from 128 on) of the previous block and of this block. -/
def kv (x3 x2 : Vec Ideal S1x128x256 .f32) (c w : Fin 256) : EReal :=
  if h : c.val < 128 then x3 (ix3 0 ⟨c, h⟩ w) else x2 (ix3 0 ⟨c - 128, by omega⟩ w)

variable (x3 x2 : Vec Ideal S1x128x256 .f32) (c : Fin 256) (x : Fin 128)

/-- The first head's keys on both halves of the lanes. -/
theorem keys0 : k0_pay8 (F := Ideal) x3 x2 (ix2 c x) = kv x3 x2 c ⟨x % 64, by omega⟩ := by
  pointwise [k0_pay8, k0_pay2, k0_pay3, k0_pay6, k0_pay5]
  rw [sel_lt 64 (by omega) _ (by omega)]
  simp only [kv]
  split_ifs <;> (congr 3; omega)

/-- The second head's keys on both halves of the lanes. -/
theorem keys1 : k0_pay9 (F := Ideal) x3 x2 (ix2 c x) = kv x3 x2 c ⟨64 + x % 64, by omega⟩ := by
  pointwise [k0_pay9, k0_pay2, k0_pay3, k0_pay6, k0_pay5]
  rw [sel_lt 64 (by omega) _ (by omega)]
  simp only [kv]
  split_ifs <;> (congr 3; omega)

/-- The first head's values on both halves of the lanes. -/
theorem vals0 : k0_pay10 (F := Ideal) x3 x2 (ix2 c x) = kv x3 x2 c ⟨128 + x % 64, by omega⟩ := by
  pointwise [k0_pay10, k0_pay2, k0_pay4, k0_pay7, k0_pay5]
  rw [sel_lt 64 (by omega) _ (by omega)]
  simp only [kv]
  split_ifs <;> (congr 3; omega)

/-- The second head's values on both halves of the lanes. -/
theorem vals1 : k0_pay11 (F := Ideal) x3 x2 (ix2 c x) = kv x3 x2 c ⟨192 + x % 64, by omega⟩ := by
  pointwise [k0_pay11, k0_pay2, k0_pay4, k0_pay7, k0_pay5]
  rw [sel_lt 64 (by omega) _ (by omega)]
  simp only [kv]
  split_ifs <;> (congr 3; omega)

/-- The low seven bits of a row number. -/
theorem and127 : ∀ r : Fin 256, IntOp.andi (BitVec.ofNat 32 r) 127#32 = BitVec.ofNat 32 (r % 128) := by
  decide +kernel

/-- The mask's bit at a row of the stacked queries. -/
theorem mask_at (i : grid0.Coords) (r : Fin 256) : k0_pay14 i (ix2 r c) = okW (i 1) (r % 128) c := by
  pointwise [k0_pay14, k0_pay13]
  rw [and127]; rfl

/-- The distance at a row of the stacked queries. -/
theorem rel_at (r : Fin 256) : k0_pay15 (F := Ideal) (ix2 r c) = FloatOps.sitofp (F := Ideal) .f32 (relW (r % 128) c) := by
  pointwise [k0_pay15, k0_pay13]
  rw [and127]; rfl

/-- A sum over 128 lanes of which the upper 64 hold zeros. -/
theorem lanes0 (f : Fin 128 → EReal) :
    (∑ x : Fin 128, if x.val < 64 then f x else 0) = ∑ d : Fin 64, f ⟨d, by omega⟩ := by
  refine (Fin.sum_univ_add (a := 64) (b := 64) _).trans ?_
  simp
  rfl

/-- A sum over 128 lanes of which the lower 64 hold zeros. -/
theorem lanes1 (f : Fin 128 → EReal) :
    (∑ x : Fin 128, if x.val < 64 then 0 else f x) = ∑ d : Fin 64, f ⟨64 + d, by omega⟩ := by
  refine (Fin.sum_univ_add (a := 64) (b := 64) _).trans ?_
  simp
  rfl

/-- The softmax written out is `mix`. -/
theorem mix_of (s s' : Fin 256 → EReal) (k k' : EReal) (v v' : Fin 256 → EReal) (hs : ∀ c, s c = s' c) (hk : k = k')
    (hv : ∀ c, v c = v' c) :
    ∑ c, Ideal.div (Ideal.exp (s c - max (Finset.fold max (Ideal.ofBits .f32 0xFF800000#32) s Finset.univ) k))
        (∑ c, Ideal.exp (s c - max (Finset.fold max (Ideal.ofBits .f32 0xFF800000#32) s Finset.univ) k)
          + Ideal.exp (k - max (Finset.fold max (Ideal.ofBits .f32 0xFF800000#32) s Finset.univ) k)) * v c
      = mix s' k' v' := by
  obtain rfl : s = s' := funext hs
  obtain rfl : v = v' := funext hv
  subst hk
  rfl

variable (i : grid0.Coords) (v : Vec Ideal S1x128x128 .f32) (s0 s1 : Elt Ideal .f32) (q l : Fin 128)

/-- The score with the factor on the queries. -/
theorem score_of (n q : ℕ) (Q : Fin 64 → EReal) (K : Fin 256 → Fin 64 → EReal) (sl : EReal) (c : Fin 256)
    (S : Fin 64 → EReal) (hS : ∀ d, S d = Q d * Ideal.ofBits .f32 0x3E000000#32 * K c d) (r : ℕ) (hr : r % 128 = q) (sl' : EReal)
    (hs : sl' = sl) :
    Scalar.select (okW n (r % 128) c) ((∑ d, S d) - sl' * FloatOps.sitofp (F := Ideal) .f32 (relW (r % 128) c))
        (Ideal.ofBits .f32 0xFF800000#32) = score n q Q K sl c := by
  subst hr hs
  rw [score, Finset.sum_congr rfl fun d _ => hS d, sum_scale]

/-- The store of heads 0 and 1, read at a query and a lane. -/
theorem store0 :
    k0_pay20 (F := Ideal) k0_pay12
      (k0_pay18 (k0_pay8 x3 x2) (k0_pay10 x3 x2) k0_pay12 (k0_pay14 i) k0_pay15 v s0 s1)
      (k0_pay19 (k0_pay8 x3 x2) (k0_pay10 x3 x2) k0_pay12 (k0_pay14 i) k0_pay15 v s0 s1) (ix3 0 q l)
      = mix (score (i 1) q (fun d => v (ix3 0 q ⟨l / 64 * 64 + d, by omega⟩)) (fun c d => kv x3 x2 c ⟨d, by omega⟩)
          (if l.val < 64 then Ideal.ofBits .f32 0x3F000000#32 else Ideal.ofBits .f32 0x3E800000#32))
        (if l.val < 64 then s0 else s1) (fun c => kv x3 x2 c ⟨128 + l % 64, by omega⟩) := by
  have hq := q.isLt
  by_cases hl : l.val < 64
  · pointwise [k0_pay1, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay12]
    simp (disch := omega) only [sel_lt, hl, hq, if_pos, dif_pos, if_true]
    refine mix_of _ _ _ _ _ _ (fun c => ?_) rfl (fun c => vals0 x3 x2 c l)
    rw [mask_at, rel_at, lanes0]
    refine score_of _ _ _ _ _ c _ (fun d => ?_) _ (by simp only []; omega) _ rfl
    have hd := d.isLt
    rw [keys0]
    congr 4 <;> simp only [Fin.mk.injEq] <;> omega
  · pointwise [k0_pay1, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay12]
    simp (disch := omega) only [sel_lt, hl, hq, if_neg, dif_pos, if_false]
    refine mix_of _ _ _ _ _ _ (fun c => ?_) rfl (fun c => vals0 x3 x2 c l)
    rw [mask_at, rel_at, lanes1]
    refine score_of _ _ _ _ _ c _ (fun d => ?_) _ (by simp only []; omega) _ rfl
    have hd := d.isLt
    rw [keys0]
    congr 4 <;> simp only [Fin.mk.injEq] <;> omega

/-- The store of heads 2 and 3, read at a query and a lane. -/
theorem store1 :
    k0_pay22 (F := Ideal) (k0_pay10 x3 x2) k0_pay12
      (k0_pay21 (k0_pay8 x3 x2) k0_pay12 (k0_pay14 i) k0_pay15 k0_pay16 v s0 s1) (ix3 0 q l)
      = mix (score (i 1) q (fun d => v (ix3 0 q ⟨l / 64 * 64 + d, by omega⟩)) (fun c d => kv x3 x2 c ⟨d, by omega⟩)
          (if l.val < 64 then Ideal.ofBits .f32 0x3E000000#32 else Ideal.ofBits .f32 0x3D800000#32))
        (if l.val < 64 then s0 else s1) (fun c => kv x3 x2 c ⟨128 + l % 64, by omega⟩) := by
  have hq := q.isLt
  by_cases hl : l.val < 64
  · pointwise [k0_pay1, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay12]
    simp (disch := omega) only [sel_lt, hl, hq, if_pos, dif_pos, if_true]
    refine mix_of _ _ _ _ _ _ (fun c => ?_) rfl (fun c => vals0 x3 x2 c l)
    rw [mask_at, rel_at, lanes0]
    refine score_of _ _ _ _ _ c _ (fun d => ?_) _ (by simp only []; omega) _ rfl
    have hd := d.isLt
    rw [keys0]
    congr 4 <;> simp only [Fin.mk.injEq] <;> omega
  · pointwise [k0_pay1, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay12]
    simp (disch := omega) only [sel_lt, hl, hq, if_neg, dif_pos, if_false]
    refine mix_of _ _ _ _ _ _ (fun c => ?_) rfl (fun c => vals0 x3 x2 c l)
    rw [mask_at, rel_at, lanes1]
    refine score_of _ _ _ _ _ c _ (fun d => ?_) _ (by simp only []; omega) _ rfl
    have hd := d.isLt
    rw [keys0]
    congr 4 <;> simp only [Fin.mk.injEq] <;> omega

/-- The store of heads 4 and 5, read at a query and a lane. -/
theorem store2 :
    k0_pay28 (F := Ideal) (k0_pay11 x3 x2) k0_pay12 (k0_pay23 k0_pay16 s0 s1)
      (k0_pay25 (k0_pay9 x3 x2) k0_pay12 (k0_pay14 i) k0_pay15 k0_pay16 v s0 s1)
      (k0_pay26 (k0_pay9 x3 x2) k0_pay12 (k0_pay14 i) k0_pay15 k0_pay16 v s0 s1)
      (k0_pay27 (k0_pay9 x3 x2) k0_pay12 (k0_pay14 i) k0_pay15 k0_pay16 v s0 s1) (ix3 0 q l)
      = mix (score (i 1) q (fun d => v (ix3 0 q ⟨l / 64 * 64 + d, by omega⟩)) (fun c d => kv x3 x2 c ⟨64 + d, by omega⟩)
          (if l.val < 64 then Ideal.ofBits .f32 0x3D000000#32 else Ideal.ofBits .f32 0x3C800000#32))
        (if l.val < 64 then s0 else s1) (fun c => kv x3 x2 c ⟨192 + l % 64, by omega⟩) := by
  have hq := q.isLt
  by_cases hl : l.val < 64
  · pointwise [k0_pay1, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay12]
    simp (disch := omega) only [sel_lt, hl, hq, if_pos, dif_pos, if_true]
    refine mix_of _ _ _ _ _ _ (fun c => ?_) rfl (fun c => vals1 x3 x2 c l)
    rw [mask_at, rel_at, lanes0]
    refine score_of _ _ _ _ _ c _ (fun d => ?_) _ (by simp only []; omega) _ rfl
    have hd := d.isLt
    rw [keys1]
    congr 4 <;> simp only [Fin.mk.injEq] <;> omega
  · pointwise [k0_pay1, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay12]
    simp (disch := omega) only [sel_lt, hl, hq, if_neg, dif_pos, if_false]
    refine mix_of _ _ _ _ _ _ (fun c => ?_) rfl (fun c => vals1 x3 x2 c l)
    rw [mask_at, rel_at, lanes1]
    refine score_of _ _ _ _ _ c _ (fun d => ?_) _ (by simp only []; omega) _ rfl
    have hd := d.isLt
    rw [keys1]
    congr 4 <;> simp only [Fin.mk.injEq] <;> omega

/-- The store of heads 6 and 7, read at a query and a lane. -/
theorem store3 :
    k0_pay1 (F := Ideal) (k0_pay11 x3 x2) k0_pay12 (k0_pay29 k0_pay16 s0 s1)
      (k0_pay30 (k0_pay9 x3 x2) k0_pay12 (k0_pay14 i) k0_pay15 k0_pay16 v)
      (k0_pay31 (k0_pay9 x3 x2) k0_pay12 (k0_pay14 i) k0_pay15 k0_pay16 v s0 s1)
      (k0_pay32 (k0_pay9 x3 x2) k0_pay12 (k0_pay14 i) k0_pay15 k0_pay16 v s0 s1) (ix3 0 q l)
      = mix (score (i 1) q (fun d => v (ix3 0 q ⟨l / 64 * 64 + d, by omega⟩)) (fun c d => kv x3 x2 c ⟨64 + d, by omega⟩)
          (if l.val < 64 then Ideal.ofBits .f32 0x3C000000#32 else Ideal.ofBits .f32 0x3B800000#32))
        (if l.val < 64 then s0 else s1) (fun c => kv x3 x2 c ⟨192 + l % 64, by omega⟩) := by
  have hq := q.isLt
  by_cases hl : l.val < 64
  · pointwise [k0_pay1, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay12]
    simp (disch := omega) only [sel_lt, hl, hq, if_pos, dif_pos, if_true]
    refine mix_of _ _ _ _ _ _ (fun c => ?_) rfl (fun c => vals1 x3 x2 c l)
    rw [mask_at, rel_at, lanes0]
    refine score_of _ _ _ _ _ c _ (fun d => ?_) _ (by simp only []; omega) _ rfl
    have hd := d.isLt
    rw [keys1]
    congr 4 <;> simp only [Fin.mk.injEq] <;> omega
  · pointwise [k0_pay1, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay12]
    simp (disch := omega) only [sel_lt, hl, hq, if_neg, dif_pos, if_false]
    refine mix_of _ _ _ _ _ _ (fun c => ?_) rfl (fun c => vals1 x3 x2 c l)
    rw [mask_at, rel_at, lanes1]
    refine score_of _ _ _ _ _ c _ (fun d => ?_) _ (by simp only []; omega) _ rfl
    have hd := d.isLt
    rw [keys1]
    congr 4 <;> simp only [Fin.mk.injEq] <;> omega

end Cert.Attn
-- ==== Proof.Attn.Ref.lean ====
/-
  The attention reference, stage by stage: the composed term of the run cut into named arrays, and each of them read
  at an index down to the function of `Spec`.
-/
module

public import proofs.«01_k».proof.Proof.Gen.ReferenceIdeal.Run
public import proofs.«01_k».proof.Proof.Attn.Spec
public import Idealize.ShloMosaic.Lib.Pointwise
public import Idealize.ShloMosaic.Lib.Tactic.CleanTypes

@[expose] public section

set_option maxRecDepth 16384

noncomputable section

namespace Cert.Attn
open Idealize.ShloMosaic Cert.ReferenceIdeal Cert.ReferenceIdeal.Gen
open Idealize.ShloMosaic.TcCoe

variable (p : Vec Ideal S8x2048x768 .f32) (s : Vec Ideal S8 .f32)

/-- The queries by block, key head and query head of its group. -/
def rQ : FVec Ideal S8x16x128x2x4x64 .f32 :=
  shapeCast _ (shapeCast _ (extractStridedSlice S8x2048x512 ![0, 0, 0] p slices_S8x2048x768_S8x2048x512_0_0_0) shapeCasts_S8x2048x512_S8x2048x8x64) shapeCasts_S8x2048x8x64_S8x16x128x2x4x64

/-- The keys by block. -/
def rK : FVec Ideal S8x16x128x2x64 .f32 :=
  shapeCast _ (shapeCast _ (extractStridedSlice S8x2048x128 ![0, 0, 512] p slices_S8x2048x768_S8x2048x128_0_0_512) shapeCasts_S8x2048x128_S8x2048x2x64) shapeCasts_S8x2048x2x64_S8x16x128x2x64

/-- The values by block. -/
def rV : FVec Ideal S8x16x128x2x64 .f32 :=
  shapeCast _ (shapeCast _ (extractStridedSlice S8x2048x128 ![0, 0, 640] p slices_S8x2048x768_S8x2048x128_0_0_640) shapeCasts_S8x2048x128_S8x2048x2x64) shapeCasts_S8x2048x2x64_S8x16x128x2x64

/-- The keys of the previous block (zeros before the first) and of the block. -/
def rKeys : FVec Ideal S8x16x256x2x64 .f32 :=
  concatenate S8x16x256x2x64 2 [⟨S8x16x128x2x64, (pad S8x16x128x2x64 ![0, 1, 0, 0, 0] ![0, 0, 0, 0, 0] ![0, 0, 0, 0, 0] (extractStridedSlice S8x15x128x2x64 ![0, 0, 0, 0, 0] (rK p) slices_S8x16x128x2x64_S8x15x128x2x64_0_0_0_0_0) (sitofp .f32 (constantI S_ 32 0#32)) pads_S8x15x128x2x64_S8x16x128x2x64_000_100_000_000_000 h_S_)⟩, ⟨S8x16x128x2x64, (rK p)⟩] concatenates_S8x16x128x2x64_S8x16x128x2x64_S8x16x256x2x64_d2

/-- The values of the previous block (zeros before the first) and of the block. -/
def rVals : FVec Ideal S8x16x256x2x64 .f32 :=
  concatenate S8x16x256x2x64 2 [⟨S8x16x128x2x64, (pad S8x16x128x2x64 ![0, 1, 0, 0, 0] ![0, 0, 0, 0, 0] ![0, 0, 0, 0, 0] (extractStridedSlice S8x15x128x2x64 ![0, 0, 0, 0, 0] (rV p) slices_S8x16x128x2x64_S8x15x128x2x64_0_0_0_0_0) (sitofp .f32 (constantI S_ 32 0#32)) pads_S8x15x128x2x64_S8x16x128x2x64_000_100_000_000_000 h_S_)⟩, ⟨S8x16x128x2x64, (rV p)⟩] concatenates_S8x16x128x2x64_S8x16x128x2x64_S8x16x256x2x64_d2

/-- The key numbers. -/
def rCol : IVec S1x256 32 :=
  broadcastInDim S1x256 ![1] bcast_S256_S1x256_1 (iotaInDim S256 32 0)

/-- The distances. -/
def rRel : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 rCol)

/-- The mask. -/
def rMask : IVec S16x128x256 1 :=
  andi (broadcastInDim S16x128x256 ![0, 1, 2] bcast_S1x128x256_S16x128x256_0_1_2 (broadcastInDim S1x128x256 ![1, 2] bcast_S128x256_S1x128x256_1_2 (andi (cmpi .sge rRel (broadcastInDim S128x256 ![] bcast_S_S128x256 (constantI S_ 32 0#32))) (cmpi .slt rRel (broadcastInDim S128x256 ![] bcast_S_S128x256 (constantI S_ 32 128#32)))))) (broadcastInDim S16x128x256 ![0, 1, 2] bcast_S16x1x256_S16x128x256_0_1_2 (broadcastInDim S16x1x256 ![0, 2] bcast_S16x256_S16x1x256_0_2 (cmpi .sge (subi (addi (broadcastInDim S16x256 ![0, 1] bcast_S16x1_S16x256_0_1 (muli (broadcastInDim S16x1 ![0] bcast_S16_S16x1_0 (iotaInDim S16 32 0)) (broadcastInDim S16x1 ![] bcast_S_S16x1 (constantI S_ 32 128#32)))) (broadcastInDim S16x256 ![0, 1] bcast_S1x256_S16x256_0_1 rCol)) (broadcastInDim S16x256 ![] bcast_S_S16x256 (constantI S_ 32 128#32))) (broadcastInDim S16x256 ![] bcast_S_S16x256 (constantI S_ 32 0#32)))))

/-- The products of queries and keys. -/
def rDot : FVec Ideal S8x16x2x4x128x256 .f32 :=
  transpose S8x16x2x4x128x256 [0, 1, 2, 5, 4, 3] (Host.dotGeneral dot_S8x16x256x2x64_S8x16x128x2x4x64_S8x16x2x256x128x4_4_5_2_24_013_013 none (rKeys p) (rQ p)) transposes_S8x16x2x256x128x4_S8x16x2x4x128x256_0_1_2_5_4_3

/-- The slopes times the distances. -/
def rAlibi : FVec Ideal S2x4x128x256 .f32 :=
  mulf (broadcastInDim S2x4x128x256 ![0, 1, 2, 3] bcast_S2x4x1x1_S2x4x128x256_0_1_2_3 (broadcastInDim S2x4x1x1 ![0, 1] bcast_S2x4_S2x4x1x1_0_1 (shapeCast _ (fun i => FloatOps.ofBits (F := Ideal) .f32 (lit0 (S8.rowMajor i))) shapeCasts_S8_S2x4))) (broadcastInDim S2x4x128x256 ![0, 1, 2, 3] bcast_S1x1x128x256_S2x4x128x256_0_1_2_3 (broadcastInDim S1x1x128x256 ![2, 3] bcast_S128x256_S1x1x128x256_2_3 (sitofp .f32 rRel)))

/-- The masked scores. -/
def rScore : FVec Ideal S8x16x2x4x128x256 .f32 :=
  select (broadcastInDim S8x16x2x4x128x256 ![0, 1, 2, 3, 4, 5] bcast_S1x16x1x1x128x256_S8x16x2x4x128x256_0_1_2_3_4_5 (broadcastInDim S1x16x1x1x128x256 ![1, 4, 5] bcast_S16x128x256_S1x16x1x1x128x256_1_4_5 rMask)) (subf (mulf (rDot p) (broadcastInDim S8x16x2x4x128x256 ![] bcast_S_S8x16x2x4x128x256 (constant S_ .f32 0x3E000000#32))) (broadcastInDim S8x16x2x4x128x256 ![0, 1, 2, 3, 4, 5] bcast_S1x1x2x4x128x256_S8x16x2x4x128x256_0_1_2_3_4_5 (broadcastInDim S1x1x2x4x128x256 ![2, 3, 4, 5] bcast_S2x4x128x256_S1x1x2x4x128x256_2_3_4_5 rAlibi))) (broadcastInDim S8x16x2x4x128x256 ![] bcast_S_S8x16x2x4x128x256 (id (constant S_ .f32 0xFF800000#32)))

/-- The sinks. -/
def rSink : FVec Ideal S8x16x2x4x128x1 .f32 :=
  broadcastInDim S8x16x2x4x128x1 ![0, 1, 2, 3, 4, 5] bcast_S1x1x2x4x1x1_S8x16x2x4x128x1_0_1_2_3_4_5 (broadcastInDim S1x1x2x4x1x1 ![2, 3] bcast_S2x4_S1x1x2x4x1x1_2_3 (shapeCast _ s shapeCasts_S8_S2x4))

/-- The largest scores. -/
def rMax : FVec Ideal S8x16x2x4x128 .f32 :=
  Host.reduce FloatOps.maximumf (rScore p) (constant S_ .f32 0xFF800000#32) reducesTo_S8x16x2x4x128x256_S8x16x2x4x128_d5 h_S_

/-- The largest of scores and sink. -/
def rTop : FVec Ideal S8x16x2x4x128x1 .f32 :=
  maximumf (broadcastInDim S8x16x2x4x128x1 ![0, 1, 2, 3, 4] bcast_S8x16x2x4x128_S8x16x2x4x128x1_0_1_2_3_4 (rMax p)) (rSink s)

/-- The exponentials. -/
def rExp : FVec Ideal S8x16x2x4x128x256 .f32 :=
  Host.exp (subf (rScore p) (broadcastInDim S8x16x2x4x128x256 ![0, 1, 2, 3, 4, 5] bcast_S8x16x2x4x128x1_S8x16x2x4x128x256_0_1_2_3_4_5 (rTop p s)))

/-- The sums of the exponentials. -/
def rSum : FVec Ideal S8x16x2x4x128 .f32 :=
  Host.reduceAdd (rExp p s) (constant S_ .f32 0x00000000#32) reducesTo_S8x16x2x4x128x256_S8x16x2x4x128_d5 h_S_

/-- The weights. -/
def rProb : FVec Ideal S8x16x2x4x128x256 .f32 :=
  Host.divf (rExp p s) (broadcastInDim S8x16x2x4x128x256 ![0, 1, 2, 3, 4, 5] bcast_S8x16x2x4x128x1_S8x16x2x4x128x256_0_1_2_3_4_5 (addf (broadcastInDim S8x16x2x4x128x1 ![0, 1, 2, 3, 4] bcast_S8x16x2x4x128_S8x16x2x4x128x1_0_1_2_3_4 (rSum p s)) (Host.exp (subf (rSink s) (rTop p s)))))

/-- The result. -/
def rOut : FVec Ideal S8x2048x512 .bf16 :=
  truncf .bf16 (shapeCast _ (transpose S8x16x128x2x4x64 [0, 1, 5, 2, 4, 3] (Host.dotGeneral dot_S8x16x256x2x64_S8x16x2x4x128x256_S8x16x2x64x4x128_2_5_4_34_013_012 none (rVals p) (rProb p s)) transposes_S8x16x2x64x4x128_S8x16x128x2x4x64_0_1_5_2_4_3) shapeCasts_S8x16x128x2x4x64_S8x2048x512) bitsLt_bf16_f32

/-- The reference's result is the last stage at its arguments. -/
theorem res_eq (m : (ℓ : Loc nD τ sig) → Buf (Elt Ideal) ℓ) (c : Dev nD) :
    Value.res_main_v83 m c = rOut (m ((c.tc : Thread nD τ).loc main_arg0)) (m ((c.tc : Thread nD τ).loc main_arg1)) := rfl

/-- The indices that drop to a given one when the last of six axes is reduced. -/
theorem drop_iff {a b e f g n : ℕ} (h : (⟨6, ![a, b, e, f, g, n]⟩ : Shape).ReducesTo [5] ⟨5, ![a, b, e, f, g]⟩)
    (j0 : Fin a) (j1 : Fin b) (j2 : Fin e) (j3 : Fin f) (j4 : Fin g) (i : (⟨6, ![a, b, e, f, g, n]⟩ : Shape).Idx) :
    h.drop i = ix5 j0 j1 j2 j3 j4 ↔ ∃ k : Fin n, ix6 j0 j1 j2 j3 j4 k = i := by
  constructor
  · intro e
    refine ⟨i 5, ?_⟩
    funext x; apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

/-- A maximum along the last of six axes, read at an index. -/
theorem reduceMax6 {a b e f g n : ℕ} (x : (⟨6, ![a, b, e, f, g, n]⟩ : Shape).Idx → EReal) (init : S_.Idx → EReal)
    (h : (⟨6, ![a, b, e, f, g, n]⟩ : Shape).ReducesTo [5] ⟨5, ![a, b, e, f, g]⟩) (hu : 0 < S_.numel)
    (j0 : Fin a) (j1 : Fin b) (j2 : Fin e) (j3 : Fin f) (j4 : Fin g) :
    Host.reduce max x init h hu (ix5 j0 j1 j2 j3 j4)
      = Finset.fold max (init (Shape.Idx.first hu)) (fun k => x (ix6 j0 j1 j2 j3 j4 k)) Finset.univ := by
  rw [Host.reduce_eq_fold]
  exact Finset.fold_filter_eq_fold_of_fiber max _ (fun k : Fin n => ix6 j0 j1 j2 j3 j4 k)
    (fun _ _ e => congrFun e 5) (drop_iff h j0 j1 j2 j3 j4) _ x

/-- A sum along the last of six axes, read at an index. -/
theorem reduceAdd6 {a b e f g n : ℕ} (x : (⟨6, ![a, b, e, f, g, n]⟩ : Shape).Idx → EReal) (init : EReal)
    (h : (⟨6, ![a, b, e, f, g, n]⟩ : Shape).ReducesTo [5] ⟨5, ![a, b, e, f, g]⟩)
    (j0 : Fin a) (j1 : Fin b) (j2 : Fin e) (j3 : Fin f) (j4 : Fin g) :
    Ideal.hostReduceAdd h x init (ix5 j0 j1 j2 j3 j4) = init + ∑ k, x (ix6 j0 j1 j2 j3 j4 k) :=
  congrArg (init + ·) (Finset.sum_filter_eq_sum_of_fiber _ (fun k : Fin n => ix6 j0 j1 j2 j3 j4 k)
    (fun _ _ e => congrFun e 5) (drop_iff h j0 j1 j2 j3 j4) x)

variable (b : Fin 8) (n : Fin 16) (k : Fin 2) (g : Fin 4) (q : Fin 128) (c : Fin 256) (d : Fin 64)

/-- A key exists when it is of this block or there is a block before it. -/
theorem exists_bit : ∀ (n : Fin 16) (c : Fin 256),
    IntOp.cmpi .sge (IntOp.subi (IntOp.addi (IntOp.muli (BitVec.ofNat 32 n) 128#32) (BitVec.ofNat 32 c)) 128#32) 0#32
      = IntOp.ori (IntOp.cmpi .sge (BitVec.ofNat 32 c) 128#32) (IntOp.cmpi .sgt (BitVec.ofNat 32 n) 0#32) := by
  decide +kernel

/-- The mask's bit. -/
theorem rMask_at : rMask (ix3 n q c) = okW n q c := by
  pointwise [rMask, rRel, rCol]
  rw [exists_bit]; rfl

/-- The position of an element of a row of eight. -/
theorem row8 (i : Fin 8) : S8.rowMajor (ix1 i) = (i : Fin 8) := by
  apply Fin.ext; exact rowMajor_val1 _

/-- The slope times the distance. -/
theorem rAlibi_at : rAlibi (ix4 k g q c) = Ideal.ofBits .f32 (lit0 ⟨k * 4 + g, by omega⟩)
    * FloatOps.sitofp (F := Ideal) .f32 (relW q c) := by
  pointwise [rAlibi, rRel, rCol]
  rw [show S8.rowMajor (ix1 ⟨k * 4 + g, by omega⟩) = (⟨k * 4 + g, by omega⟩ : Fin 8) from
    row8 ⟨k * 4 + g, by omega⟩]
  rfl

/-- A key of the block itself. -/
theorem rKeys_own (h : 128 ≤ c.val) :
    rKeys p (ix5 b n c k d) = p (ix3 b ⟨n * 128 + (c - 128), by omega⟩ ⟨512 + (k * 64 + d), by omega⟩) := by
  pointwise [rKeys, rK]
  rw [dif_neg (by omega)]

/-- A key of the block before. -/
theorem rKeys_prev (h : c.val < 128) (hn : n.val ≠ 0) :
    rKeys p (ix5 b n c k d) = p (ix3 b ⟨(n - 1) * 128 + c, by omega⟩ ⟨512 + (k * 64 + d), by omega⟩) := by
  pointwise [rKeys, rK]
  rw [dif_pos (by omega), dif_pos (by omega)]

/-- A value of the block itself. -/
theorem rVals_own (h : 128 ≤ c.val) :
    rVals p (ix5 b n c k d) = p (ix3 b ⟨n * 128 + (c - 128), by omega⟩ ⟨640 + (k * 64 + d), by omega⟩) := by
  pointwise [rVals, rV]
  rw [dif_neg (by omega)]

/-- A value of the block before. -/
theorem rVals_prev (h : c.val < 128) (hn : n.val ≠ 0) :
    rVals p (ix5 b n c k d) = p (ix3 b ⟨(n - 1) * 128 + c, by omega⟩ ⟨640 + (k * 64 + d), by omega⟩) := by
  pointwise [rVals, rV]
  rw [dif_pos (by omega), dif_pos (by omega)]

/-- Before the first block the values are zeros. -/
theorem rVals_first (h : c.val < 128) (hn : n.val = 0) : rVals p (ix5 b n c k d) = 0 := by
  pointwise [rVals, rV]
  rw [dif_pos (by omega), dif_neg (by omega)]
  simp [FloatOps.sitofp]

/-- The product of a query and a key. -/
theorem rDot_at : rDot p (ix6 b n k g q c)
    = ∑ x : Fin 64, p (ix3 b ⟨n * 128 + q, by omega⟩ ⟨k * 256 + g * 64 + x, by omega⟩) * rKeys p (ix5 b n c k x) := by
  pointwise [rDot, rQ]
  exact Finset.sum_congr rfl fun x _ => mul_comm _ _

/-- The masked score. -/
theorem rScore_at : rScore p (ix6 b n k g q c)
    = score n q (fun x => p (ix3 b ⟨n * 128 + q, by omega⟩ ⟨k * 256 + g * 64 + x, by omega⟩))
        (fun c x => rKeys p (ix5 b n c k x)) (Ideal.ofBits .f32 (lit0 ⟨k * 4 + g, by omega⟩)) c := by
  pointwise [rScore]
  rw [rMask_at, rDot_at, rAlibi_at]; rfl

/-- The largest score. -/
theorem rMax_at : rMax p (ix5 b n k g q)
    = Finset.fold max (Ideal.ofBits .f32 0xFF800000#32) (fun c => rScore p (ix6 b n k g q c)) Finset.univ :=
  reduceMax6 _ _ _ _ _ _ _ _ _

/-- The sink of a head, at every query. -/
theorem rSink_at : rSink s (ix6 b n k g q 0) = s (ix1 ⟨k * 4 + g, by omega⟩) := by
  pointwise [rSink]

/-- The largest of the scores and the sink, of any two arrays. -/
theorem max_at (M : FVec Ideal S8x16x2x4x128 .f32) (N : FVec Ideal S8x16x2x4x128x1 .f32) (x y : EReal)
    (hx : M (ix5 b n k g q) = x) (hy : N (ix6 b n k g q 0) = y) :
    maximumf (broadcastInDim S8x16x2x4x128x1 ![0, 1, 2, 3, 4] bcast_S8x16x2x4x128_S8x16x2x4x128x1_0_1_2_3_4 M) N
      (ix6 b n k g q 0) = max x y := by
  pointwise
  rw [hx, hy]

/-- The largest of the scores and the sink. -/
theorem rTop_at : rTop p s (ix6 b n k g q 0)
    = top (fun c => rScore p (ix6 b n k g q c)) (s (ix1 ⟨k * 4 + g, by omega⟩)) :=
  max_at b n k g q (rMax p) (rSink s) _ _ (rMax_at p b n k g q) (rSink_at s b n k g q)

/-- The exponential of a score. -/
theorem rExp_at : rExp p s (ix6 b n k g q c)
    = Ideal.exp (rScore p (ix6 b n k g q c) - top (fun c => rScore p (ix6 b n k g q c)) (s (ix1 ⟨k * 4 + g, by omega⟩))) := by
  pointwise [rExp]
  rw [rTop_at]

/-- The sum of the exponentials. -/
theorem rSum_at : rSum p s (ix5 b n k g q) = ∑ c, rExp p s (ix6 b n k g q c) := by
  refine (reduceAdd6 (rExp p s) (Ideal.ofBits .f32 0x00000000#32) _ _ _ _ _ _).trans ?_
  rw [Ideal.ofBits_zero_f32, zero_add]

/-- The weight of a key. -/
theorem rProb_at : rProb p s (ix6 b n k g q c)
    = Ideal.div (rExp p s (ix6 b n k g q c))
        (den (fun c => rScore p (ix6 b n k g q c)) (s (ix1 ⟨k * 4 + g, by omega⟩))) := by
  pointwise [rProb, rSink]
  rw [rSum_at, rTop_at]
  simp only [rExp_at]; rfl

/-- The result at a query and a lane of a head. -/
theorem rOut_at (r : Fin 2048) (l : Fin 512) : rOut p s (ix3 b r l)
    = mix (score (r / 128) (r % 128)
          (fun x => p (ix3 b ⟨r / 128 * 128 + r % 128, by omega⟩ ⟨l / 256 * 256 + l / 64 % 4 * 64 + x, by omega⟩))
          (fun c x => rKeys p (ix5 b ⟨r / 128, by omega⟩ c ⟨l / 256, by omega⟩ x))
          (Ideal.ofBits .f32 (lit0 ⟨l / 256 * 4 + l / 64 % 4, by omega⟩)))
        (s (ix1 ⟨l / 256 * 4 + l / 64 % 4, by omega⟩))
        (fun c => rVals p (ix5 b ⟨r / 128, by omega⟩ c ⟨l / 256, by omega⟩ ⟨l % 64, by omega⟩)) := by
  pointwise [rOut]
  refine Finset.sum_congr rfl fun c _ => ?_
  rw [mul_comm, rProb_at]
  simp only [rExp_at]
  rw [show (fun c => rScore p _) = _ from funext fun c => rScore_at ..]
  rw [rScore_at]

end Cert.Attn
-- ==== Proof.Attn.Kernel.lean ====
/-
  The attention kernel's result array is the reference's.
-/
module

public import proofs.«01_k».proof.Proof.Gen.KernelIdeal.Value
public import Idealize.ShloMosaic.Lib.Pipeline.ValueKit
public import proofs.«01_k».proof.Proof.Attn.Pay
public import proofs.«01_k».proof.Proof.Attn.Ref

@[expose] public section

set_option maxRecDepth 16384

noncomputable section

namespace Cert.Attn
open Idealize.ShloMosaic Cert.KernelIdeal Cert.KernelIdeal.Gen
open Idealize.ShloMosaic.TcCoe

variable (m : (ℓ : Loc nD τ sig) → Buf (Elt Ideal) ℓ)

/-- Every window's block index at a grid point, and the bounds of its coordinates (decided). -/
theorem idx : ∀ t : Fin cfg0.N, win0_0.index t = ![0] ∧ win0_1.index t = ![(grid0.coords t 0).val, (grid0.coords t 1).val, 0]
    ∧ win0_2.index t = ![(grid0.coords t 0).val, (grid0.coords t 1).val, 2]
    ∧ win0_3.index t = ![(grid0.coords t 0).val, (grid0.coords t 1).val - 1, 2]
    ∧ win0_4.index t = ![(grid0.coords t 0).val, (grid0.coords t 1).val, 0] ∧ (grid0.coords t 0).val < 8 ∧ (grid0.coords t 1).val < 16 :=
  (by decide +kernel : ∀ t : Fin grid0.N, _)

/-- This block's keys and values. -/
theorem cur_at (c : Dev nD) (t : Fin cfg0.N) (b : Fin 8) (n : Fin 16)
    (hb : (grid0.coords t 0).val = b) (hn : (grid0.coords t 1).val = n) (r : Fin 128) (w : Fin 256) :
    iblk m c 2 t (ix3 0 r w) = m ((c.tc : Thread nD τ).loc main_arg0) (ix3 b ⟨n * 128 + r, by omega⟩ ⟨512 + w, by omega⟩) := by
  blk_ext [iblk, V, idx t]

/-- The previous block's keys and values. -/
theorem prev_at (c : Dev nD) (t : Fin cfg0.N) (b : Fin 8) (n : Fin 16)
    (hb : (grid0.coords t 0).val = b) (hn : (grid0.coords t 1).val = n) (r : Fin 128) (w : Fin 256) (h : n.val ≠ 0):
    iblk m c 3 t (ix3 0 r w) = m ((c.tc : Thread nD τ).loc main_arg0) (ix3 b ⟨(n - 1) * 128 + r, by omega⟩ ⟨512 + w, by omega⟩) := by
  blk_ext [iblk, V, idx t]
/-- This block's queries. -/
theorem q_at (c : Dev nD) (t : Fin cfg0.N) (b : Fin 8) (n : Fin 16)
    (hb : (grid0.coords t 0).val = b) (hn : (grid0.coords t 1).val = n) (r : Fin 128) (w : Fin 512)  :
    X0_1 m c t (ix3 0 r w) = m ((c.tc : Thread nD τ).loc main_arg0) (ix3 b ⟨n * 128 + r, by omega⟩ ⟨w, by omega⟩) := by
  unfold X0_1 Pipeline.Window.fill
  rw [dif_pos (moved0_1 t _)]
  blk_ext [iblk, V, idx t]
/-- The sinks. -/
theorem s_at (c : Dev nD) (t : Fin cfg0.N) (w : Fin 8)  :
    iblk m c 0 t (ix1 w) = m ((c.tc : Thread nD τ).loc main_arg1) (ix1 w) := by
  blk_ext [iblk, V, idx t]
/-- Where an index of the result's block lies in the array. -/
theorem o_at (c : Dev nD) (t : Fin cfg0.N) (b : Fin 8) (n : Fin 16)
    (hb : (grid0.coords t 0).val = b) (hn : (grid0.coords t 1).val = n)
    (y : ((cfg0.win 4).xblock (cfg0.grid.coords t)).Idx) (r : Fin 128) (w : Fin 512) (hr : (y 1).val = r) (hw : (y 2).val = w):
   (((View.whole main_v0).slice (win0_4.rect t)).emb y) = ix3 b ⟨n * 128 + r, by omega⟩ w := by
  blk_ext [idx t]

/-- The previous block of the first block is the first block. -/
theorem prev_first (c : Dev nD) (t : Fin cfg0.N) (hn : (grid0.coords t 1).val = 0) (r : Fin 128) (w : Fin 256) :
    iblk m c 3 t (ix3 0 r w) = iblk m c 2 t (ix3 0 r w) := by
  blk_ext [iblk, V, idx t]

/-- The kernel's arrangement of the keys and values gives the reference's result. -/
theorem tile (p : Vec Ideal S8x2048x768 .f32) (s : Vec Ideal S8 .f32) (x3 x2 : Vec Ideal S1x128x256 .f32) (b : Fin 8)
    (n : Fin 16)
    (h2 : ∀ (r : Fin 128) (w : Fin 256), x2 (ix3 0 r w) = p (ix3 b ⟨n * 128 + r, by omega⟩ ⟨512 + w, by omega⟩))
    (h3 : n.val ≠ 0 → ∀ (r : Fin 128) (w : Fin 256),
      x3 (ix3 0 r w) = p (ix3 b ⟨(n - 1) * 128 + r, by omega⟩ ⟨512 + w, by omega⟩))
    (h0 : n.val = 0 → ∀ (r : Fin 128) (w : Fin 256), x3 (ix3 0 r w) = x2 (ix3 0 r w)) (q : Fin 128) (l : Fin 512) :
    mix (score n q (fun d => p (ix3 b ⟨n * 128 + q, by omega⟩ ⟨l / 64 * 64 + d, by omega⟩))
          (fun c d => kv x3 x2 c ⟨l / 256 * 64 + d, by omega⟩) (Ideal.ofBits .f32 (Cert.ReferenceIdeal.lit0 ⟨l / 64, by omega⟩)))
        (s (ix1 ⟨l / 64, by omega⟩)) (fun c => kv x3 x2 c ⟨128 + (l / 256 * 64 + l % 64), by omega⟩)
      = rOut p s (ix3 b ⟨n * 128 + q, by omega⟩ l) := by
  have hn := n.isLt
  have hq := q.isLt
  have hl := l.isLt
  have e1 : (n.val * 128 + q) / 128 = n := by omega
  have e2 : (n.val * 128 + q) % 128 = q := by omega
  have e3 : l.val / 256 * 4 + l / 64 % 4 = l / 64 := by omega
  have e4 : ∀ x, l.val / 256 * 256 + l / 64 % 4 * 64 + x = l / 64 * 64 + x := fun x => by omega
  rw [rOut_at]
  simp only [e1, e2, e3, e4]
  refine mix_congr _ _ _ _ _ _ _ _ _ (fun c hc => funext fun d => ?_) (fun c hc => ?_) (fun hz c => ?_) (fun hz c => ?_)
  · by_cases h : 128 ≤ c.val
    · rw [rKeys_own _ _ _ _ _ _ h, kv, dif_neg (by omega), h2]
    · rw [rKeys_prev _ _ n _ _ _ (by omega) (by omega), kv, dif_pos (by omega), h3 (by omega)]
  · by_cases h : 128 ≤ c.val
    · rw [rVals_own _ _ _ _ _ _ h, kv, dif_neg (by omega), h2]
      congr 3; simp only []; omega
    · rw [rVals_prev _ _ n _ _ _ (by omega) (by omega), kv, dif_pos (by omega), h3 (by omega)]
      congr 3; simp only []; omega
  · rw [kv, dif_pos (by simp), kv, dif_neg (by simp), h0 hz]
    congr 3; simp
  · exact rVals_first _ _ _ _ _ _ (by simp) hz

/-- Equal parts give equal results. -/
theorem mix_args (n q : ℕ) (Q Q' : Fin 64 → EReal) (K K' : Fin 256 → Fin 64 → EReal) (sl sl' s s' : EReal) (v v' : Fin 256 → EReal)
    (hQ : ∀ d, Q d = Q' d) (hK : ∀ c d, K c d = K' c d) (hl : sl = sl') (hs : s = s') (hv : ∀ c, v c = v' c) :
    mix (score n q Q K sl) s v = mix (score n q Q' K' sl') s' v' := by
  obtain rfl : Q = Q' := funext hQ
  obtain rfl : K = K' := funext fun c => funext (hK c)
  obtain rfl : v = v' := funext hv
  subst hl hs
  rfl

/-- The attention kernel's result array is the reference's result. -/
theorem arr_eq (c : Dev nD) :
    (dats m 0 c).arrAt 4 cfg0.N = rOut (m ((c.tc : Thread nD τ).loc main_arg0)) (m ((c.tc : Thread nD τ).loc main_arg1)) := by
  refine (dats m 0 c).arrAt_eq_of_covers 4 _ (by decide +kernel) fun t hf y => ?_
  blk_simp
  rw [after0_4]
  unfold outsAt0
  frame_out
  obtain ⟨b, hb⟩ : ∃ b : Fin 8, (grid0.coords t 0).val = b := ⟨⟨_, (idx t).2.2.2.2.2.1⟩, rfl⟩
  obtain ⟨n, hn⟩ : ∃ n : Fin 16, (grid0.coords t 1).val = n := ⟨⟨_, (idx t).2.2.2.2.2.2⟩, rfl⟩
  have T := tile (m ((c.tc : Thread nD τ).loc main_arg0)) (m ((c.tc : Thread nD τ).loc main_arg1)) (iblk m c 3 t) (iblk m c 2 t) b n
    (fun r w => cur_at m c t b n hb hn r w) (fun h r w => prev_at m c t b n hb hn r w (by omega))
    (fun h r w => prev_first m c t (by omega) r w)
  canon_tiles x h
  · obtain ⟨z, q, l, rfl⟩ : ∃ (z : Fin 1) (q l : Fin 128), x = ix3 z q l := ⟨x 0, x 1, x 2, by funext a; fin_cases a <;> rfl⟩
    obtain rfl : z = 0 := Subsingleton.elim _ _
    have hl := l.isLt
    rw [o_at c t b n hb hn y q ⟨384 + l, by omega⟩ h1 (h2.trans (by simp)), ← T, store3]
    rw [hn]
    refine mix_args _ _ _ _ _ _ _ _ _ _ _ _ (fun d => ?_) (fun c d => ?_) ?_ ?_ (fun c => ?_)
    · have hd := d.isLt
      refine Eq.trans (congrArg (X0_1 m c t) (a₂ := ix3 0 q ⟨384 + (l / 64 * 64 + d), by omega⟩) (by funext a; apply Fin.ext; rw [Rect.idx_unit_val]; fin_cases a <;> simp)) ?_
      rw [q_at m c t b n hb hn]
      congr 3; simp only []; omega
    · congr 2; simp only []; omega
    · by_cases h : l.val < 64
      · rw [if_pos h, show (⟨(384 + l) / 64, by omega⟩ : Fin 8) = 6 from Fin.ext (by simp; omega)]; rfl
      · rw [if_neg h, show (⟨(384 + l) / 64, by omega⟩ : Fin 8) = 7 from Fin.ext (by simp; omega)]; rfl
    · rw [← s_at m c t]
      by_cases h : l.val < 64
      · rw [if_pos h]
        exact congrArg (iblk m c 0 t) (funext fun a => by fin_cases a; exact Fin.ext (show 6 = (384 + l.val) / 64 by omega))
      · rw [if_neg h]
        exact congrArg (iblk m c 0 t) (funext fun a => by fin_cases a; exact Fin.ext (show 7 = (384 + l.val) / 64 by omega))
    · congr 2; simp only []; omega
  · obtain ⟨z, q, l, rfl⟩ : ∃ (z : Fin 1) (q l : Fin 128), x = ix3 z q l := ⟨x 0, x 1, x 2, by funext a; fin_cases a <;> rfl⟩
    obtain rfl : z = 0 := Subsingleton.elim _ _
    have hl := l.isLt
    rw [o_at c t b n hb hn y q ⟨256 + l, by omega⟩ h1 (h2.trans (by simp)), ← T, store2]
    rw [hn]
    refine mix_args _ _ _ _ _ _ _ _ _ _ _ _ (fun d => ?_) (fun c d => ?_) ?_ ?_ (fun c => ?_)
    · have hd := d.isLt
      refine Eq.trans (congrArg (X0_1 m c t) (a₂ := ix3 0 q ⟨256 + (l / 64 * 64 + d), by omega⟩) (by funext a; apply Fin.ext; rw [Rect.idx_unit_val]; fin_cases a <;> simp)) ?_
      rw [q_at m c t b n hb hn]
      congr 3; simp only []; omega
    · congr 2; simp only []; omega
    · by_cases h : l.val < 64
      · rw [if_pos h, show (⟨(256 + l) / 64, by omega⟩ : Fin 8) = 4 from Fin.ext (by simp; omega)]; rfl
      · rw [if_neg h, show (⟨(256 + l) / 64, by omega⟩ : Fin 8) = 5 from Fin.ext (by simp; omega)]; rfl
    · rw [← s_at m c t]
      by_cases h : l.val < 64
      · rw [if_pos h]
        exact congrArg (iblk m c 0 t) (funext fun a => by fin_cases a; exact Fin.ext (show 4 = (256 + l.val) / 64 by omega))
      · rw [if_neg h]
        exact congrArg (iblk m c 0 t) (funext fun a => by fin_cases a; exact Fin.ext (show 5 = (256 + l.val) / 64 by omega))
    · congr 2; simp only []; omega
  · obtain ⟨z, q, l, rfl⟩ : ∃ (z : Fin 1) (q l : Fin 128), x = ix3 z q l := ⟨x 0, x 1, x 2, by funext a; fin_cases a <;> rfl⟩
    obtain rfl : z = 0 := Subsingleton.elim _ _
    have hl := l.isLt
    rw [o_at c t b n hb hn y q ⟨128 + l, by omega⟩ h1 (h2.trans (by simp)), ← T, store1]
    rw [hn]
    refine mix_args _ _ _ _ _ _ _ _ _ _ _ _ (fun d => ?_) (fun c d => ?_) ?_ ?_ (fun c => ?_)
    · have hd := d.isLt
      refine Eq.trans (congrArg (X0_1 m c t) (a₂ := ix3 0 q ⟨128 + (l / 64 * 64 + d), by omega⟩) (by funext a; apply Fin.ext; rw [Rect.idx_unit_val]; fin_cases a <;> simp)) ?_
      rw [q_at m c t b n hb hn]
      congr 3; simp only []; omega
    · congr 2; simp only []; omega
    · by_cases h : l.val < 64
      · rw [if_pos h, show (⟨(128 + l) / 64, by omega⟩ : Fin 8) = 2 from Fin.ext (by simp; omega)]; rfl
      · rw [if_neg h, show (⟨(128 + l) / 64, by omega⟩ : Fin 8) = 3 from Fin.ext (by simp; omega)]; rfl
    · rw [← s_at m c t]
      by_cases h : l.val < 64
      · rw [if_pos h]
        exact congrArg (iblk m c 0 t) (funext fun a => by fin_cases a; exact Fin.ext (show 2 = (128 + l.val) / 64 by omega))
      · rw [if_neg h]
        exact congrArg (iblk m c 0 t) (funext fun a => by fin_cases a; exact Fin.ext (show 3 = (128 + l.val) / 64 by omega))
    · congr 2; simp only []; omega
  · obtain ⟨z, q, l, rfl⟩ : ∃ (z : Fin 1) (q l : Fin 128), x = ix3 z q l := ⟨x 0, x 1, x 2, by funext a; fin_cases a <;> rfl⟩
    obtain rfl : z = 0 := Subsingleton.elim _ _
    have hl := l.isLt
    rw [o_at c t b n hb hn y q ⟨0 + l, by omega⟩ h1 (h2.trans (by simp)), ← T, store0]
    rw [hn]
    refine mix_args _ _ _ _ _ _ _ _ _ _ _ _ (fun d => ?_) (fun c d => ?_) ?_ ?_ (fun c => ?_)
    · have hd := d.isLt
      refine Eq.trans (congrArg (X0_1 m c t) (a₂ := ix3 0 q ⟨0 + (l / 64 * 64 + d), by omega⟩) (by funext a; apply Fin.ext; rw [Rect.idx_unit_val]; fin_cases a <;> simp)) ?_
      rw [q_at m c t b n hb hn]
      congr 3; simp only []; omega
    · congr 2; simp only []; omega
    · by_cases h : l.val < 64
      · rw [if_pos h, show (⟨(0 + l) / 64, by omega⟩ : Fin 8) = 0 from Fin.ext (by simp; omega)]; rfl
      · rw [if_neg h, show (⟨(0 + l) / 64, by omega⟩ : Fin 8) = 1 from Fin.ext (by simp; omega)]; rfl
    · rw [← s_at m c t]
      by_cases h : l.val < 64
      · rw [if_pos h]
        exact congrArg (iblk m c 0 t) (funext fun a => by fin_cases a; exact Fin.ext (show 0 = (0 + l.val) / 64 by omega))
      · rw [if_neg h]
        exact congrArg (iblk m c 0 t) (funext fun a => by fin_cases a; exact Fin.ext (show 1 = (0 + l.val) / 64 by omega))
    · congr 2; simp only []; omega

end Cert.Attn
-- ==== Proof.Attn.Claims.lean ====
/-
  The claims of the attention call.
-/
module

public import proofs.«01_k».proof.Defs
public import proofs.«01_k».proof.Proof.Gen.Kernel.Frame
public import proofs.«01_k».proof.Proof.Gen.Kernel
public import proofs.«01_k».proof.Proof.Gen.KernelIdeal
public import proofs.«01_k».proof.Proof.Gen.ReferenceIdeal
public import Idealize.ShloMosaic.Lib.Claim
public import proofs.«01_k».proof.Proof.Attn.Kernel

@[expose] public section

set_option maxRecDepth 16384

noncomputable section

namespace Cert.Proof.Attn
open Idealize.ShloMosaic
open Idealize.ShloMosaic.TcCoe

/-- The kernel terminates with its arguments unchanged and every counter back at zero. -/
theorem frame_kernel : Cert.quiescent_Kernel := fun m g _ => Cert.Kernel.Gen.frame m g

/-- So does the kernel that the value claim is about. -/
theorem frame_kernelIdeal : Cert.quiescent_KernelIdeal := fun m g _ => Cert.KernelIdeal.Gen.frame m g

/-- So does the reference. -/
theorem frame_reference : Cert.quiescent_ReferenceIdeal := fun m g _ =>
  (θ_run Cert.ReferenceIdeal.defs _ _).mono (fun _ h => ⟨fun c => (h c).2, funext fun g => nomatch g.2⟩) (Cert.ReferenceIdeal.Value.run m g)

/-- The kernel's result is the reference's. -/
theorem value : Cert.algebraic_KernelIdeal_ReferenceIdeal := by
  pair_intro
  · run_from Cert.KernelIdeal.Value.run_blocks m g
  · run_from Cert.ReferenceIdeal.Value.run m' g'
    exact (Cert.Attn.res_eq m' c).trans ((congrArg₂ Cert.Attn.rOut (hagree c).1 (hagree c).2).trans (Cert.Attn.arr_eq m c).symm)

end Cert.Proof.Attn
-- ==== Proof.Norm.Spec.lean ====
/-
  The root-mean-square normalization of a row, and the two calls that apply one matrix to it.
-/
module

public import Idealize.ShloMosaic.Lib.Pointwise
public import Idealize.ShloMosaic.PureOps.Ideal

@[expose] public section

noncomputable section

namespace Cert.Norm
open Idealize.ShloMosaic

/-- A row over the root of its mean square, times the gains. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- The normalized row times one column of a matrix. -/
def proj (x g w : Fin 1024 → EReal) : EReal := ∑ k, rms x g k * w k

end Cert.Norm
-- ==== Proof.Norm.Proj.lean ====
/-
  The normalized projection: the kernel's two result arrays, and the claims.
-/
module

public import proofs.«01_k».proof.Defs
public import proofs.«01_k».proof.Proof.Gen.NormProj
public import proofs.«01_k».proof.Proof.Gen.NormProj.Frame
public import proofs.«01_k».proof.Proof.Gen.NormProjIdeal
public import proofs.«01_k».proof.Proof.Gen.NormProjIdeal.Value
public import proofs.«01_k».proof.Proof.Gen.RefNormProjIdeal
public import proofs.«01_k».proof.Proof.Gen.RefNormProjIdeal.Run
public import Idealize.ShloMosaic.Lib.Tactic.CleanTypes
public import proofs.«01_k».proof.Proof.Norm.Spec
public import Idealize.ShloMosaic.Lib.Pipeline.ValueKit
public import Idealize.ShloMosaic.Lib.Claim

@[expose] public section

set_option maxRecDepth 16384

noncomputable section

namespace Cert.Norm.Proj
open Idealize.ShloMosaic
open Idealize.ShloMosaic.TcCoe

open Cert.NormProjIdeal Cert.NormProjIdeal.Gen

/-- The normalized rows times the columns of the matrix from column `o` on. -/
def cols (o n : ℕ) (h : o + n ≤ 2560) (x : Vec Ideal S16384x1024 .f32) (g : Vec Ideal S1024 .f32) (w : Vec Ideal S1024x2560 .f32) :
    Vec Ideal ⟨2, ![16384, n]⟩ .f32 := fun i =>
  proj (fun k => x (ix2 (i 0) k)) (fun k => g (ix1 k))
    (fun k => w (ix2 k ⟨o + (i 1).val, by have := (i 1).isLt; simp at this; omega⟩))

/-- The product of a grid point, read at a row and a column. -/
theorem pay (v0 : Vec Ideal S512x1024 .f32) (v1 : Vec Ideal S1x1024 .f32) (v16 : Vec Ideal S1024x2560 .bf16) (r : Fin 512)
    (l : Fin 2560) : k0_pay1 (F := Ideal) v0 v1 v16 (ix2 r l)
      = proj (fun k => v0 (ix2 r k)) (fun k => v1 (ix2 0 k)) (fun k => v16 (ix2 k l)) := by
  pointwise [k0_pay1]
  rfl

variable (m : (ℓ : Loc nD τ sig) → Buf (Elt Ideal) ℓ)

/-- Every window's block index at a grid point (decided). -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 32 :=
  (by decide +kernel : ∀ t : Fin grid0.N, _)

/-- The rows of a grid point. -/
theorem x_at (c : Dev nD) (t : Fin cfg0.N) (r : Fin 512) (k : Fin 1024) :
    iblk m c 0 t (ix2 r k) = m ((c.tc : Thread nD τ).loc main_arg0) (ix2 ⟨t.val * 512 + r, by have := (idx t).2.2.2.2.2; omega⟩ k) := by
  blk_ext [iblk, V, idx t]

/-- The gains. -/
theorem g_at (c : Dev nD) (t : Fin cfg0.N) (k : Fin 1024) :
    iblk m c 1 t (ix2 0 k) = m ((c.tc : Thread nD τ).loc main_arg1) (ix1 k) := by
  blk_simp [iblk, idx t]
  entry_read
  pointwise
  blk_ext [idx t]

/-- The matrix. -/
theorem w_at (c : Dev nD) (t : Fin cfg0.N) (k : Fin 1024) (l : Fin 2560) :
    iblk m c 2 t (ix2 k l) = m ((c.tc : Thread nD τ).loc main_arg2) (ix2 k l) := by
  blk_simp [iblk, idx t]
  entry_read
  pointwise
  blk_ext [idx t]

/-- The first result array holds the columns below 1792. -/
theorem arr0 (c : Dev nD) :
    (dats m 0 c).arrAt 3 cfg0.N = cols 0 1792 (by omega) (m ((c.tc : Thread nD τ).loc main_arg0))
      (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  obtain ⟨r, l, rfl⟩ : ∃ (r : Fin 512) (l : Fin 1792), y = ix2 r l := ⟨y 0, y 1, by funext a; fin_cases a <;> rfl⟩
  have e : ((View.whole main_v2_0).slice (win0_3.rect t)).emb (ix2 r l)
      = ix2 ⟨t.val * 512 + r, by have := (idx t).2.2.2.2.2; omega⟩ l := by blk_ext [idx t]
  rw [e]
  pointwise [k0_pay2]
  refine (pay _ _ _ r _).trans ?_
  simp only [x_at, g_at, w_at, cols, zero_add]
  rfl

/-- The second result array holds the columns from 1792 on. -/
theorem arr1 (c : Dev nD) :
    (dats m 0 c).arrAt 4 cfg0.N = cols 1792 768 (by omega) (m ((c.tc : Thread nD τ).loc main_arg0))
      (m ((c.tc : Thread nD τ).loc main_arg1)) (m ((c.tc : Thread nD τ).loc main_arg2)) := by
  refine (dats m 0 c).arrAt_eq_of_covers 4 _ (by decide +kernel) fun t hf y => ?_
  blk_simp
  rw [after0_4]
  frame_out
  obtain ⟨r, l, rfl⟩ : ∃ (r : Fin 512) (l : Fin 768), y = ix2 r l := ⟨y 0, y 1, by funext a; fin_cases a <;> rfl⟩
  have e : ((View.whole main_v2_1).slice (win0_4.rect t)).emb (ix2 r l)
      = ix2 ⟨t.val * 512 + r, by have := (idx t).2.2.2.2.2; omega⟩ l := by blk_ext [idx t]
  rw [e]
  pointwise [k0_pay3]
  refine (pay _ _ _ r _).trans ?_
  simp only [x_at, g_at, w_at]
  rfl

/-- The kernel terminates with its arguments unchanged and every counter back at zero. -/
theorem frame_kernel : Cert.quiescent_NormProj := fun m g _ => Cert.NormProj.Gen.frame m g

/-- So does the kernel that the value claim is about. -/
theorem frame_ideal : Cert.quiescent_NormProjIdeal := fun m g _ => Cert.NormProjIdeal.Gen.frame m g

/-- So does the reference. -/
theorem frame_reference : Cert.quiescent_RefNormProjIdeal := fun m g _ =>
  (θ_run Cert.RefNormProjIdeal.defs _ _).mono (fun _ h => ⟨fun c => (h c).2.2, funext fun g => nomatch g.2⟩) (Cert.RefNormProjIdeal.Value.run m g)

/-- The kernel's two results are the reference's. -/
theorem value : Cert.algebraic_NormProjIdeal_RefNormProjIdeal := by
  pair_intro
  · run_from Cert.NormProjIdeal.Value.run_blocks m g
  · run_from Cert.RefNormProjIdeal.Value.run m' g'
    · rw [arr0 m c]
      clean_types
      funext i
      obtain ⟨r, l, rfl⟩ : ∃ (r : Fin 16384) (l : Fin 1792), i = ix2 r l := ⟨i 0, i 1, by funext a; fin_cases a <;> rfl⟩
      pointwise
      simp only [cols, zero_add]
      rfl
    · rw [arr1 m c]
      clean_types
      funext i
      obtain ⟨r, l, rfl⟩ : ∃ (r : Fin 16384) (l : Fin 768), i = ix2 r l := ⟨i 0, i 1, by funext a; fin_cases a <;> rfl⟩
      pointwise
      rfl

end Cert.Norm.Proj
-- ==== Proof.Norm.Glu.lean ====
/-
  The normalized and gated projection: the kernel's result array, the reference's, and the claims.
-/
module

public import proofs.«01_k».proof.Defs
public import proofs.«01_k».proof.Proof.Gen.NormGlu
public import proofs.«01_k».proof.Proof.Gen.NormGlu.Frame
public import proofs.«01_k».proof.Proof.Gen.NormGluIdeal
public import proofs.«01_k».proof.Proof.Gen.NormGluIdeal.Value
public import proofs.«01_k».proof.Proof.Gen.RefNormGluIdeal
public import proofs.«01_k».proof.Proof.Gen.RefNormGluIdeal.Run
public import Idealize.ShloMosaic.Lib.Tactic.CleanTypes
public import proofs.«01_k».proof.Proof.Norm.Spec
public import Idealize.ShloMosaic.Lib.Pipeline.ValueKit
public import Idealize.ShloMosaic.Lib.Claim

@[expose] public section

set_option maxRecDepth 16384

noncomputable section

namespace Cert.Norm.Glu
open Idealize.ShloMosaic
open Idealize.ShloMosaic.TcCoe

open Cert.NormGluIdeal Cert.NormGluIdeal.Gen

/-- A gated projection: the first half of the columns times the logistic function of the second. -/
def glu (x : Vec Ideal S16384x1024 .f32) (g : Vec Ideal S1024 .f32) (w : Vec Ideal S1024x2048 .f32) (b : Vec Ideal S2048 .f32) :
    Vec Ideal S16384x1024 .f32 := fun i =>
  (proj (fun k => x (ix2 (i 0) k)) (fun k => g (ix1 k)) (fun k => w (ix2 k ⟨(i 1).val, by have := (i 1).isLt; simp at this; omega⟩))
      + b (ix1 ⟨(i 1).val, by have := (i 1).isLt; simp at this; omega⟩))
    * Ideal.logistic (proj (fun k => x (ix2 (i 0) k)) (fun k => g (ix1 k))
        (fun k => w (ix2 k ⟨1024 + (i 1).val, by have := (i 1).isLt; simp at this; omega⟩))
      + b (ix1 ⟨1024 + (i 1).val, by have := (i 1).isLt; simp at this; omega⟩))

/-- The store of a grid point, read at a row and a column. -/
theorem pay (v0 : Vec Ideal S512x1024 .f32) (v1 : Vec Ideal S1x1024 .f32) (v16 : Vec Ideal S1024x2048 .bf16) (v19 : Vec Ideal S1x2048 .f32)
   (r : Fin 512) (l : Fin 1024) : k0_pay1 (F := Ideal) v0 v1 v16 v19 (ix2 r l) =
  (proj (fun k => v0 (ix2 r k)) (fun k => v1 (ix2 0 k)) (fun k => v16 (ix2 k ⟨l, by omega⟩)) + v19 (ix2 0 ⟨l, by omega⟩))
    * Ideal.logistic (proj (fun k => v0 (ix2 r k)) (fun k => v1 (ix2 0 k)) (fun k => v16 (ix2 k ⟨1024 + l, by omega⟩))
      + v19 (ix2 0 ⟨1024 + l, by omega⟩)) := by
  pointwise [k0_pay1]
  rfl

variable (m : (ℓ : Loc nD τ sig) → Buf (Elt Ideal) ℓ)

/-- Every window's block index at a grid point (decided). -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ t.val < 32 :=
  (by decide +kernel : ∀ t : Fin grid0.N, _)

/-- The rows of a grid point. -/
theorem x_at (c : Dev nD) (t : Fin cfg0.N) (r : Fin 512) (k : Fin 1024) :
    iblk m c 0 t (ix2 r k) = m ((c.tc : Thread nD τ).loc main_arg0) (ix2 ⟨t.val * 512 + r, by have := (idx t).2.2.2.2.2; omega⟩ k) := by
  blk_ext [iblk, V, idx t]

/-- The gains. -/
theorem g_at (c : Dev nD) (t : Fin cfg0.N) (k : Fin 1024) :
    iblk m c 1 t (ix2 0 k) = m ((c.tc : Thread nD τ).loc main_arg1) (ix1 k) := by
  blk_simp [iblk, idx t]
  entry_read
  pointwise
  blk_ext [idx t]

/-- The matrix. -/
theorem w_at (c : Dev nD) (t : Fin cfg0.N) (k : Fin 1024) (l : Fin 2048) :
    iblk m c 2 t (ix2 k l) = m ((c.tc : Thread nD τ).loc main_arg2) (ix2 k l) := by
  blk_simp [iblk, idx t]
  entry_read
  pointwise
  blk_ext [idx t]

/-- The bias. -/
theorem b_at (c : Dev nD) (t : Fin cfg0.N) (l : Fin 2048) :
    iblk m c 3 t (ix2 0 l) = m ((c.tc : Thread nD τ).loc main_arg3) (ix1 l) := by
  blk_simp [iblk, idx t]
  entry_read
  pointwise
  blk_ext [idx t]

/-- The kernel's result array. -/
theorem arr (c : Dev nD) :
    (dats m 0 c).arrAt 4 cfg0.N = glu (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  blk_simp
  rw [after0_4]
  frame_out
  obtain ⟨r, l, rfl⟩ : ∃ (r : Fin 512) (l : Fin 1024), y = ix2 r l := ⟨y 0, y 1, by funext a; fin_cases a <;> rfl⟩
  have e : ((View.whole main_v3).slice (win0_4.rect t)).emb (ix2 r l)
      = ix2 ⟨t.val * 512 + r, by have := (idx t).2.2.2.2.2; omega⟩ l := by blk_ext [idx t]
  rw [e]
  refine (pay _ _ _ _ r l).trans ?_
  simp only [x_at, g_at, w_at, b_at]
  rfl

/-- The kernel terminates with its arguments unchanged and every counter back at zero. -/
theorem frame_kernel : Cert.quiescent_NormGlu := fun m g _ => Cert.NormGlu.Gen.frame m g

/-- So does the kernel that the value claim is about. -/
theorem frame_ideal : Cert.quiescent_NormGluIdeal := fun m g _ => Cert.NormGluIdeal.Gen.frame m g

/-- So does the reference. -/
theorem frame_reference : Cert.quiescent_RefNormGluIdeal := fun m g _ =>
  (θ_run Cert.RefNormGluIdeal.defs _ _).mono (fun _ h => ⟨fun c => (h c).2, funext fun g => nomatch g.2⟩) (Cert.RefNormGluIdeal.Value.run m g)

/-- The kernel's result is the reference's. -/
theorem value : Cert.algebraic_NormGluIdeal_RefNormGluIdeal := by
  pair_intro
  · run_from Cert.NormGluIdeal.Value.run_blocks m g
  · run_from Cert.RefNormGluIdeal.Value.run m' g'
    rw [arr m c]
    clean_types
    funext i
    obtain ⟨r, l, rfl⟩ : ∃ (r : Fin 16384) (l : Fin 1024), i = ix2 r l := ⟨i 0, i 1, by funext a; fin_cases a <;> rfl⟩
    pointwise
    rfl

end Cert.Norm.Glu
-- ==== Proof.Mlp.Frames.lean ====
/-
  The two calls of the feed-forward part terminate and keep their arguments.
-/
module

public import proofs.«01_k».proof.Defs
public import proofs.«01_k».proof.Proof.Gen.MlpMid.Frame
public import proofs.«01_k».proof.Proof.Gen.MlpMidIdeal.Frame
public import proofs.«01_k».proof.Proof.Gen.RefMlpMidIdeal.Run
public import proofs.«01_k».proof.Proof.Gen.MlpLast.Frame
public import proofs.«01_k».proof.Proof.Gen.MlpLastIdeal.Frame
public import proofs.«01_k».proof.Proof.Gen.RefMlpLastIdeal.Run
public import Idealize.ShloMosaic.Lib.Claim

@[expose] public section

set_option maxRecDepth 16384

noncomputable section

namespace Cert.Mlp
open Idealize.ShloMosaic
open Idealize.ShloMosaic.TcCoe

/-- The middle call terminates with its arguments unchanged and every counter back at zero. -/
theorem mid_kernel : Cert.quiescent_MlpMid := fun m g _ => Cert.MlpMid.Gen.frame m g

/-- So does the middle call that the value claim is about. -/
theorem mid_ideal : Cert.quiescent_MlpMidIdeal := fun m g _ => Cert.MlpMidIdeal.Gen.frame m g

/-- So does the middle call's reference. -/
theorem mid_reference : Cert.quiescent_RefMlpMidIdeal := fun m g _ =>
  (θ_run Cert.RefMlpMidIdeal.defs _ _).mono (fun _ h => ⟨fun c => (h c).2, funext fun g => nomatch g.2⟩) (Cert.RefMlpMidIdeal.Value.run m g)

/-- The last call terminates with its arguments unchanged and every counter back at zero. -/
theorem last_kernel : Cert.quiescent_MlpLast := fun m g _ => Cert.MlpLast.Gen.frame m g

/-- So does the last call that the value claim is about. -/
theorem last_ideal : Cert.quiescent_MlpLastIdeal := fun m g _ => Cert.MlpLastIdeal.Gen.frame m g

/-- So does the last call's reference. -/
theorem last_reference : Cert.quiescent_RefMlpLastIdeal := fun m g _ =>
  (θ_run Cert.RefMlpLastIdeal.defs _ _).mono (fun _ h => ⟨fun c => (h c).2, funext fun g => nomatch g.2⟩) (Cert.RefMlpLastIdeal.Value.run m g)

end Cert.Mlp
-- ==== Proof.Mlp.Spec.lean ====
/-
  The feed-forward part of one row.
-/
module

public import proofs.«01_k».proof.Proof.Norm.Spec
public import Idealize.ShloMosaic.Lib.Pipeline.ValueKit

@[expose] public section

noncomputable section

namespace Cert.Mlp
open Idealize.ShloMosaic

/-- A hidden unit: the square of the positive part of a row times a column. -/
def unit (h w : Fin 1024 → EReal) : EReal :=
  max (∑ k, h k * w k) 0 * max (∑ k, h k * w k) 0

/-- What block `s` of the hidden units adds to an output column. -/
def part (h : Fin 1024 → EReal) (w1 : Fin 1024 → Fin 4096 → EReal) (w2 : Fin 4096 → EReal) (s : Fin 4) : EReal :=
  ∑ l : Fin 1024, unit h (fun k => w1 k ⟨s.val * 1024 + l.val, by omega⟩) * w2 ⟨s.val * 1024 + l.val, by omega⟩

/-- What all hidden units add to an output column. -/
def total (h : Fin 1024 → EReal) (w1 : Fin 1024 → Fin 4096 → EReal) (w2 : Fin 4096 → EReal) : EReal :=
  ∑ u : Fin 4096, unit h (fun k => w1 k u) * w2 u

/-- The four blocks together are all hidden units. -/
theorem sum_part (h : Fin 1024 → EReal) (w1 : Fin 1024 → Fin 4096 → EReal) (w2 : Fin 4096 → EReal) :
    ∑ s : Fin 4, part h w1 w2 s = total h w1 w2 :=
  Fin.sum_mul_add_fin 4 1024 (fun u : Fin 4096 => unit h (fun k => w1 k u) * w2 u)

end Cert.Mlp
-- ==== Proof.Mlp.Ref.lean ====
/-
  The steps that both references of the feed-forward part share, over whole arrays.
-/
module

public import proofs.«01_k».proof.Proof.Gen.RefMlpLastIdeal.Run
public import proofs.«01_k».proof.Proof.Mlp.Spec

@[expose] public section

set_option maxRecDepth 16384

noncomputable section

namespace Cert.Mlp.Ref
open Idealize.ShloMosaic Cert.Norm
open Idealize.ShloMosaic.TcCoe
open Cert.RefMlpLastIdeal Cert.RefMlpLastIdeal.Gen

/-- The host's normalization of all rows. -/
def norm (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf
    (broadcastInDim S16384x1 ![0] bcast_S16384_S16384x1_0 (Host.reduceAdd (mulf x x) (constant S_ .f32 0x00000000#32)
      reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- It is the normalization of each row. -/
theorem norm_at (x : FVec Ideal S16384x1024 .f32) (g : FVec Ideal S1024 .f32) (r : Fin 16384) (k : Fin 1024) :
    norm x g (ix2 r k) = rms (fun j => x (ix2 r j)) (fun j => g (ix1 j)) k := by
  pointwise [norm]
  rfl

/-- The positive parts of the host's hidden units. -/
def pos (h : FVec Ideal S16384x1024 .f32) (w1 : FVec Ideal S1024x4096 .f32) : FVec Ideal S16384x4096 .f32 :=
  maximumf (Host.dotGeneral dot_S16384x1024_S1024x4096_S16384x4096_1_0_0_1_n_n none h w1)
    (broadcastInDim S16384x4096 ![] bcast_S_S16384x4096 (constant S_ .f32 0x00000000#32))

/-- The host's feed-forward part of all rows. -/
def feed (h : FVec Ideal S16384x1024 .f32) (w1 : FVec Ideal S1024x4096 .f32) (w2 : FVec Ideal S4096x1024 .f32) :
    FVec Ideal S16384x1024 .f32 :=
  Host.dotGeneral dot_S16384x4096_S4096x1024_S16384x1024_1_0_0_1_n_n none (mulf (pos h w1) (pos h w1)) w2

/-- It is the feed-forward part of each row. -/
theorem feed_at (h : FVec Ideal S16384x1024 .f32) (w1 : FVec Ideal S1024x4096 .f32) (w2 : FVec Ideal S4096x1024 .f32)
    (r : Fin 16384) (k : Fin 1024) : feed h w1 w2 (ix2 r k)
      = total (fun j => h (ix2 r j)) (fun j u => w1 (ix2 j u)) (fun u => w2 (ix2 u k)) := by
  pointwise [feed, pos]
  rfl

end Cert.Mlp.Ref
-- ==== Proof.Mlp.MidRef.lean ====
/-
  What the middle call's reference computes.
-/
module

public import proofs.«01_k».proof.Proof.Gen.RefMlpMidIdeal.Run
public import proofs.«01_k».proof.Proof.Mlp.Ref

@[expose] public section

set_option maxRecDepth 65536

noncomputable section

namespace Cert.Mlp.Ref.Mid
open Idealize.ShloMosaic Cert.Norm
open Idealize.ShloMosaic.TcCoe
open Cert.RefMlpMidIdeal Cert.RefMlpMidIdeal.Gen

/-- A row after the projection. -/
def row (x : Vec Ideal S16384x1024 .f32) (y y' : Vec Ideal S16384x512 .bf16) (w : Vec Ideal S1024x1024 .f32)
    (R : Fin 16384) (k : Fin 1024) : EReal :=
  x (ix2 R k) + (∑ a : Fin 512, y (ix2 R a) * w (ix2 ⟨a.val, by omega⟩ k) + ∑ a : Fin 512, y' (ix2 R a) * w (ix2 ⟨512 + a.val, by omega⟩ k))

/-- The result array's entries: a row and what the hidden units add to it. -/
def out (x : Vec Ideal S16384x1024 .f32) (y y' : Vec Ideal S16384x512 .bf16) (w : Vec Ideal S1024x1024 .f32)
    (g : Vec Ideal S1024 .f32) (w1 : Vec Ideal S1024x4096 .f32) (w2 : Vec Ideal S4096x1024 .f32) :
    Vec Ideal S16384x1024 .f32 := fun i =>
  row x y y' w (i 0) (i 1)
    + total (rms (row x y y' w (i 0)) fun k => g (ix1 k)) (fun k u => w1 (ix2 k u)) (fun u => w2 (ix2 u (i 1)))

variable (m' : (ℓ : Loc nD τ sig) → Buf (Elt Ideal) ℓ) (c : Dev nD)

/-- The reference's rows after the projection. -/
def rows : FVec Ideal S16384x1024 .f32 :=
  addf (m' ((c.tc : Thread nD τ).loc main_arg0)) (Host.dotGeneral (φ₂ := .f32)
    dot_S16384x1024_S1024x1024_S16384x1024_1_0_0_1_n_n none
    (concatenate S16384x1024 1 [⟨S16384x512, (extf .f32 (m' ((c.tc : Thread nD τ).loc main_arg1)) bitsLt_bf16_f32)⟩,
      ⟨S16384x512, (extf .f32 (m' ((c.tc : Thread nD τ).loc main_arg2)) bitsLt_bf16_f32)⟩]
      concatenates_S16384x512_S16384x512_S16384x1024_d1)
    (m' ((c.tc : Thread nD τ).loc main_arg3)))

/-- They are the rows after the projection. -/
theorem rows_at (r : Fin 16384) (k : Fin 1024) : rows m' c (ix2 r k)
    = row (m' ((c.tc : Thread nD τ).loc main_arg0)) (m' ((c.tc : Thread nD τ).loc main_arg1))
        (m' ((c.tc : Thread nD τ).loc main_arg2)) (m' ((c.tc : Thread nD τ).loc main_arg3)) r k := by
  pointwise [rows]
  rfl

/-- The reference's result, by its steps. -/
theorem res_steps : Value.res_out0 (F := Ideal) m' c
    = addf (rows m' c) (feed (norm (rows m' c) (m' ((c.tc : Thread nD τ).loc main_arg4)))
          (m' ((c.tc : Thread nD τ).loc main_arg5)) (m' ((c.tc : Thread nD τ).loc main_arg6))) := by
  unfold Value.res_out0 Value.res_main_v22 feed pos norm rows
  rfl

/-- The reference's result. -/
theorem res_eq : Value.res_out0 (F := Ideal) m' c
    = out (m' ((c.tc : Thread nD τ).loc main_arg0)) (m' ((c.tc : Thread nD τ).loc main_arg1))
        (m' ((c.tc : Thread nD τ).loc main_arg2)) (m' ((c.tc : Thread nD τ).loc main_arg3))
        (m' ((c.tc : Thread nD τ).loc main_arg4)) (m' ((c.tc : Thread nD τ).loc main_arg5))
        (m' ((c.tc : Thread nD τ).loc main_arg6)) := by
  rw [res_steps]
  funext i
  obtain ⟨r, l, rfl⟩ : ∃ (r : Fin 16384) (l : Fin 1024), i = ix2 r l := ⟨i 0, i 1, by funext a; fin_cases a <;> rfl⟩
  refine congrArg₂ (· + ·) (rows_at m' c r l) ((feed_at _ _ _ r l).trans ?_)
  simp only [norm_at, rows_at]
  rfl

end Cert.Mlp.Ref.Mid
-- ==== Proof.Mlp.Mid.lean ====
/-
  The middle call: projection of both mixers' rows and the feed-forward part over four blocks of the hidden units.
-/
module

public import proofs.«01_k».proof.Defs
public import proofs.«01_k».proof.Proof.Gen.MlpMidIdeal.Value
public import proofs.«01_k».proof.Proof.Gen.RefMlpMidIdeal.Run
public import proofs.«01_k».proof.Proof.Mlp.MidRef
public import Idealize.ShloMosaic.Lib.Pipeline.ValueKit
public import Idealize.ShloMosaic.Lib.Pipeline.ReadBack
public import Idealize.ShloMosaic.Lib.Claim
public import Idealize.ShloMosaic.Lib.Tactic.CleanTypes

@[expose] public section

set_option maxRecDepth 16384

noncomputable section

namespace Cert.Mlp.Mid
open Idealize.ShloMosaic Cert.Norm Cert.Mlp.Ref.Mid
open Idealize.ShloMosaic.TcCoe
open Cert.MlpMidIdeal Cert.MlpMidIdeal.Gen

/-- The projected row, read at a row and a column. -/
theorem pay_x (x : Vec Ideal S512x1024 .f32) (b : Vec Ideal S1x1024 .f32) (y : Vec Ideal S512x512 .bf16)
    (w : Vec Ideal S512x1024 .bf16) (y' : Vec Ideal S512x512 .bf16) (w' : Vec Ideal S512x1024 .bf16) (r : Fin 512) (k : Fin 1024) :
    k0_pay4 (F := Ideal) x b y w y' w' (ix2 r k) = x (ix2 r k) + b (ix2 0 k)
      + ∑ a : Fin 512, y (ix2 r a) * w (ix2 a k) + ∑ a : Fin 512, y' (ix2 r a) * w' (ix2 a k) := by
  pointwise [k0_pay4]

/-- The stored projected row is the projected row. -/
theorem pay_s (x : Vec Ideal S512x1024 .f32) (b : Vec Ideal S1x1024 .f32) (y : Vec Ideal S512x512 .bf16)
    (w : Vec Ideal S512x1024 .bf16) (y' : Vec Ideal S512x512 .bf16) (w' : Vec Ideal S512x1024 .bf16) : k0_pay5 (F := Ideal) x b y w y' w' = k0_pay4 (F := Ideal) x b y w y' w' := shapeCast_self ..

/-- The normalized row, read at a row and a column. -/
theorem pay_h (x : Vec Ideal S512x1024 .f32) (b : Vec Ideal S1x1024 .f32) (y : Vec Ideal S512x512 .bf16)
    (w : Vec Ideal S512x1024 .bf16) (y' : Vec Ideal S512x512 .bf16) (w' : Vec Ideal S512x1024 .bf16) (g : Vec Ideal S1x1024 .f32) (r : Fin 512) (k : Fin 1024) :
    k0_pay6 (F := Ideal) x b y w y' w' g (ix2 r k)
      = rms (fun j => k0_pay4 (F := Ideal) x b y w y' w' (ix2 r j)) (fun j => g (ix2 0 j)) k := by
  pointwise [k0_pay6]
  rfl

/-- One point's addition, read at a row and a column. -/
theorem pay_a (h : Vec Ideal S512x1024 .bf16) (w1 : Vec Ideal S1024x1024 .bf16) (a : Vec Ideal S512x1024 .f32)
    (w2 : Vec Ideal S1024x1024 .bf16) (r : Fin 512) (k : Fin 1024) : k0_pay2 (F := Ideal) h w1 a w2 (ix2 r k)
      = a (ix2 r k) + ∑ l : Fin 1024, unit (fun j => h (ix2 r j)) (fun j => w1 (ix2 j l)) * w2 (ix2 l k) := by
  pointwise [k0_pay2]
  rfl

/-- The stored sum, read at a row and a column. -/
theorem pay_o (x a : Vec Ideal S512x1024 .f32) (r : Fin 512) (k : Fin 1024) :
    k0_pay3 (F := Ideal) x a (ix2 r k) = x (ix2 r k) + a (ix2 r k) := by
  pointwise [k0_pay3]

/-- Every window's block index at a grid point (decided). -/
theorem idx : ∀ t : Fin cfg0.N, win0_0.index t = ![t.val / 4, 0] ∧ win0_1.index t = ![t.val / 4, 0] ∧ win0_2.index t = ![t.val / 4, 0]
    ∧ win0_3.index t = ![0, 0] ∧ win0_4.index t = ![0, 0] ∧ win0_5.index t = ![0, 0] ∧ win0_6.index t = ![0, 0]
    ∧ win0_7.index t = ![0, t.val % 4] ∧ win0_8.index t = ![t.val % 4, 0]
    ∧ win0_9.index t = ![0, 0] ∧ win0_10.index t = ![t.val / 4, 0] ∧ t.val < 128 :=
  (by decide +kernel : ∀ t : Fin grid0.N, _)

variable (m : (ℓ : Loc nD τ sig) → Buf (Elt Ideal) ℓ)

/-- The rows of a grid point. -/
theorem x_at (c : Dev nD) (t : Fin cfg0.N) (r : Fin 512) (k : Fin 1024) :
    iblk m c 0 t (ix2 r k) = m ((c.tc : Thread nD τ).loc main_arg0)
      (ix2 ⟨t.val / 4 * 512 + r, by have := (idx t).2.2.2.2.2.2.2.2.2.2.2; omega⟩ k) := by
  blk_ext [iblk, V, idx t]

/-- The first mixer's rows of a grid point. -/
theorem y_at (c : Dev nD) (t : Fin cfg0.N) (r k : Fin 512) :
    iblk m c 1 t (ix2 r k) = m ((c.tc : Thread nD τ).loc main_arg1)
      (ix2 ⟨t.val / 4 * 512 + r, by have := (idx t).2.2.2.2.2.2.2.2.2.2.2; omega⟩ k) := by
  blk_ext [iblk, V, idx t]

/-- The second mixer's rows of a grid point. -/
theorem y2_at (c : Dev nD) (t : Fin cfg0.N) (r k : Fin 512) :
    iblk m c 2 t (ix2 r k) = m ((c.tc : Thread nD τ).loc main_arg2)
      (ix2 ⟨t.val / 4 * 512 + r, by have := (idx t).2.2.2.2.2.2.2.2.2.2.2; omega⟩ k) := by
  blk_ext [iblk, V, idx t]

/-- The rows of the projection's matrix for the first mixer. -/
theorem p_at (c : Dev nD) (t : Fin cfg0.N) (a : Fin 512) (k : Fin 1024) :
    iblk m c 3 t (ix2 a k) = m ((c.tc : Thread nD τ).loc main_arg3) (ix2 ⟨a.val, by omega⟩ k) := by
  blk_simp [iblk, idx t]
  entry_read
  pointwise
  blk_ext [idx t]

/-- The rows of the projection's matrix for the second mixer. -/
theorem p2_at (c : Dev nD) (t : Fin cfg0.N) (a : Fin 512) (k : Fin 1024) :
    iblk m c 4 t (ix2 a k) = m ((c.tc : Thread nD τ).loc main_arg3) (ix2 ⟨512 + a.val, by omega⟩ k) := by
  blk_simp [iblk, idx t]
  entry_read
  pointwise
  blk_ext [idx t]

/-- The row that stands where a bias would. -/
theorem b_at (c : Dev nD) (t : Fin cfg0.N) (k : Fin 1024) : iblk m c 5 t (ix2 0 k) = (0 : EReal) := by
  blk_simp [iblk, idx t]
  entry_read
  pointwise

/-- The gains. -/
theorem g_at (c : Dev nD) (t : Fin cfg0.N) (k : Fin 1024) :
    iblk m c 6 t (ix2 0 k) = m ((c.tc : Thread nD τ).loc main_arg4) (ix1 k) := by
  blk_simp [iblk, idx t]
  entry_read
  pointwise
  blk_ext [idx t]

/-- A grid point's columns of the first matrix. -/
theorem w1_at (c : Dev nD) (t : Fin cfg0.N) (k l : Fin 1024) :
    iblk m c 7 t (ix2 k l) = m ((c.tc : Thread nD τ).loc main_arg5) (ix2 k ⟨t.val % 4 * 1024 + l.val, by omega⟩) := by
  blk_simp [iblk, idx t]
  entry_read
  pointwise
  blk_ext [idx t]

/-- A grid point's rows of the second matrix. -/
theorem w2_at (c : Dev nD) (t : Fin cfg0.N) (l k : Fin 1024) :
    iblk m c 8 t (ix2 l k) = m ((c.tc : Thread nD τ).loc main_arg6) (ix2 ⟨t.val % 4 * 1024 + l.val, by omega⟩ k) := by
  blk_simp [iblk, idx t]
  entry_read
  pointwise
  blk_ext [idx t]

/-- A row block's first point leaves the projected rows, their normalization, and the first block's product. -/
theorem first (c : Dev nD) (t : Fin cfg0.N) (h : t.val % 4 = 0) :
    (outsAt0 m c t.val t.isLt).2 =
      (k0_pay5 (iblk m c 0 t) (iblk m c 5 t) (iblk m c 1 t) (iblk m c 3 t) (iblk m c 2 t) (iblk m c 4 t),
       k0_pay6 (iblk m c 0 t) (iblk m c 5 t) (iblk m c 1 t) (iblk m c 3 t) (iblk m c 2 t) (iblk m c 4 t) (iblk m c 6 t),
       k0_pay2 (k0_pay6 (iblk m c 0 t) (iblk m c 5 t) (iblk m c 1 t) (iblk m c 3 t) (iblk m c 2 t) (iblk m c 4 t) (iblk m c 6 t)) (iblk m c 7 t)
         (k0_pay1 (F := Ideal)) (iblk m c 8 t)) := by
  rw [outsAt0_A m c t h (by omega)]
  dsimp only
  refine Prod.ext ?_ (Prod.ext ?_ ?_)
  · frame_out
  · frame_out
  · frame_out

/-- A later point keeps the rows and their normalization and adds its block's product. -/
theorem next (c : Dev nD) (t : Fin cfg0.N) (h : ¬t.val % 4 = 0) :
    (outsAt0 m c t.val t.isLt).2 =
      ((outsAt0 m c (t.val - 1) (Nat.lt_of_le_of_lt (Nat.sub_le _ _) t.isLt)).2.1,
       (outsAt0 m c (t.val - 1) (Nat.lt_of_le_of_lt (Nat.sub_le _ _) t.isLt)).2.2.1,
       k0_pay2 (outsAt0 m c (t.val - 1) (Nat.lt_of_le_of_lt (Nat.sub_le _ _) t.isLt)).2.2.1 (iblk m c 7 t)
         (outsAt0 m c (t.val - 1) (Nat.lt_of_le_of_lt (Nat.sub_le _ _) t.isLt)).2.2.2 (iblk m c 8 t)) := by
  by_cases h3 : t.val % 4 = 3
  · rw [outsAt0_C m c t h h3]
    refine Prod.ext (by dsimp only; unfold sout0_C_0; simp only [read_unread_whole]) (Prod.ext (by dsimp only; unfold sout0_C_1; simp only [read_unread_whole]) ?_)
    frame_out
    simp only [read_unread_whole]
  · rw [outsAt0_B m c t h h3]
    refine Prod.ext (by dsimp only; unfold sout0_B_0; simp only [read_unread_whole]) (Prod.ext (by dsimp only; unfold sout0_B_1; simp only [read_unread_whole]) ?_)
    frame_out
    simp only [read_unread_whole]

/-- A row block's last point leaves the sum of the rows and what was added up. -/
theorem last (c : Dev nD) (t : Fin cfg0.N) (h : t.val % 4 = 3) :
    (outsAt0 m c t.val t.isLt).1
      = k0_pay3 (outsAt0 m c t.val t.isLt).2.1 (outsAt0 m c t.val t.isLt).2.2.2 := by
  rw [next m c t (by omega), outsAt0_C m c t (by omega) h]
  frame_out
  simp only [read_unread_whole]

/-- The row that a grid point's local row is. -/
abbrev at_row (t : Fin cfg0.N) (r : Fin 512) : Fin 16384 :=
  ⟨t.val / 4 * 512 + r.val, by have := (idx t).2.2.2.2.2.2.2.2.2.2.2; omega⟩

/-- The rows after the projection, of the call's arguments. -/
abbrev rows (c : Dev nD) : Fin 16384 → Fin 1024 → EReal :=
  row (m ((c.tc : Thread nD τ).loc main_arg0)) (m ((c.tc : Thread nD τ).loc main_arg1))
    (m ((c.tc : Thread nD τ).loc main_arg2)) (m ((c.tc : Thread nD τ).loc main_arg3))

/-- The rows' normalization. -/
abbrev normed (c : Dev nD) (R : Fin 16384) : Fin 1024 → EReal :=
  rms (rows m c R) fun k => m ((c.tc : Thread nD τ).loc main_arg4) (ix1 k)

/-- The projected block at a grid point. -/
theorem pay_rows (c : Dev nD) (t : Fin cfg0.N) (r : Fin 512) (k : Fin 1024) :
    k0_pay4 (F := Ideal) (iblk m c 0 t) (iblk m c 5 t) (iblk m c 1 t) (iblk m c 3 t) (iblk m c 2 t) (iblk m c 4 t) (ix2 r k) = rows m c (at_row t r) k := by
  refine (pay_x _ _ _ _ _ _ r k).trans ?_
  simp only [x_at, y_at, p_at, b_at, y2_at, p2_at, add_zero, add_assoc]
  rfl

/-- The normalized block at a grid point. -/
theorem pay_normed (c : Dev nD) (t : Fin cfg0.N) (r : Fin 512) (k : Fin 1024) :
    k0_pay6 (F := Ideal) (iblk m c 0 t) (iblk m c 5 t) (iblk m c 1 t) (iblk m c 3 t) (iblk m c 2 t) (iblk m c 4 t) (iblk m c 6 t) (ix2 r k)
      = normed m c (at_row t r) k := by
  refine (pay_h _ _ _ _ _ _ _ r k).trans ?_
  simp only [pay_rows, g_at]

/-- At every point the two carried blocks hold the row block's rows and their normalization. -/
theorem held (c : Dev nD) : ∀ (n : ℕ) (hn : n < cfg0.N) (r : Fin 512) (k : Fin 1024),
    (outsAt0 m c n hn).2.1 (ix2 r k) = rows m c (at_row ⟨n, hn⟩ r) k
      ∧ (outsAt0 m c n hn).2.2.1 (ix2 r k) = normed m c (at_row ⟨n, hn⟩ r) k := by
  intro n
  induction n with
  | zero =>
    intro hn r k
    have e := first m c ⟨0, hn⟩ rfl
    dsimp only at e
    rw [e, pay_s]
    exact ⟨pay_rows m c ⟨0, hn⟩ r k, pay_normed m c ⟨0, hn⟩ r k⟩
  | succ n ih =>
    intro hn r k
    by_cases h : (n + 1) % 4 = 0
    · have e := first m c ⟨n + 1, hn⟩ h
      dsimp only at e
      rw [e, pay_s]
      exact ⟨pay_rows m c ⟨n + 1, hn⟩ r k, pay_normed m c ⟨n + 1, hn⟩ r k⟩
    · have e := next m c ⟨n + 1, hn⟩ h
      dsimp only at e
      rw [e]
      have q : at_row ⟨n + 1, hn⟩ r = at_row ⟨n, by omega⟩ r := by
        apply Fin.ext
        show (n + 1) / 4 * 512 + r.val = n / 4 * 512 + r.val
        omega
      rw [q]
      exact ih (by omega) r k

/-- What a grid point adds to a column of a row. -/
abbrev term (c : Dev nD) (t : Fin cfg0.N) (j : S512x1024.Idx) : EReal :=
  part (normed m c (at_row t (j 0))) (fun k u => m ((c.tc : Thread nD τ).loc main_arg5) (ix2 k u))
    (fun u => m ((c.tc : Thread nD τ).loc main_arg6) (ix2 u (j 1))) ⟨t.val % 4, by omega⟩

/-- A point's addition to what is added up, over the normalized block `h`. -/
theorem pay_term (c : Dev nD) (t : Fin cfg0.N) (h : Vec Ideal S512x1024 .bf16) (a : Vec Ideal S512x1024 .f32)
    (hh : ∀ r k, h (ix2 r k) = normed m c (at_row t r) k) (r : Fin 512) (k : Fin 1024) :
    k0_pay2 (F := Ideal) h (iblk m c 7 t) a (iblk m c 8 t) (ix2 r k) = a (ix2 r k) + term m c t (ix2 r k) := by
  refine (pay_a _ _ _ _ r k).trans ?_
  simp only [hh, w1_at, w2_at]
  rfl

/-- At a row block's last point all hidden units have been added up. -/
theorem added (c : Dev nD) (t : Fin cfg0.N) (h : t.val % 4 = 3) (r : Fin 512) (k : Fin 1024) :
    (outsAt0 m c t.val t.isLt).2.2.2 (ix2 r k)
      = total (normed m c (at_row t r)) (fun k u => m ((c.tc : Thread nD τ).loc main_arg5) (ix2 k u))
          (fun u => m ((c.tc : Thread nD τ).loc main_arg6) (ix2 u k)) := by
  rw [Pipeline.eq_sum_fin_of_reset_step_apply_of_flush (fun n h => (outsAt0 m c n h).2.2.2) 4 (fun _ => (0 : EReal)) (term m c)
    (fun t h j => by
      obtain ⟨r, k, rfl⟩ : ∃ (r : Fin 512) (k : Fin 1024), j = ix2 r k := ⟨j 0, j 1, by funext a; fin_cases a <;> rfl⟩
      rw [first m c t h]
      refine (pay_term m c t _ _ (pay_normed m c t) r k).trans ?_
      pointwise [k0_pay1])
    (fun t h j => by
      obtain ⟨r, k, rfl⟩ : ∃ (r : Fin 512) (k : Fin 1024), j = ix2 r k := ⟨j 0, j 1, by funext a; fin_cases a <;> rfl⟩
      rw [next m c t h]
      refine pay_term m c t _ _ (fun r k => ?_) r k
      refine ((held m c (t.val - 1) _ r k).2).trans ?_
      have q : at_row ⟨t.val - 1, by omega⟩ r = at_row t r := by
        apply Fin.ext
        show (t.val - 1) / 4 * 512 + r.val = t.val / 4 * 512 + r.val
        omega
      rw [q])
    t h (ix2 r k), zero_add, ← sum_part]
  refine Finset.sum_congr rfl fun s _ => ?_
  have q : at_row ⟨4 * (t.val / 4) + s.val, by have := t.isLt; have := (idx t).2.2.2.2.2.2.2.2.2.2.2; have : cfg0.N = 128 := N_0; omega⟩ r = at_row t r := by
    apply Fin.ext
    show (4 * (t.val / 4) + s.val) / 4 * 512 + r.val = t.val / 4 * 512 + r.val
    omega
  have q' : (⟨(4 * (t.val / 4) + s.val) % 4, by omega⟩ : Fin 4) = s := by
    apply Fin.ext
    show (4 * (t.val / 4) + s.val) % 4 = s.val
    omega
  dsimp only [term]
  exact congrArg₂ (fun R s => part (normed m c R) (fun k u => m ((c.tc : Thread nD τ).loc main_arg5) (ix2 k u))
    (fun u => m ((c.tc : Thread nD τ).loc main_arg6) (ix2 u k)) s) q q'

/-- The kernel's result array. -/
theorem arr (c : Dev nD) :
    (dats m 0 c).arrAt 10 cfg0.N = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  refine (dats m 0 c).arrAt_eq_of_covers 10 _ (by decide +kernel) fun t hf y => ?_
  have h3 : t.val % 4 = 3 := (flush0_10 t).mp hf
  blk_simp
  rw [after0_10, last m c t h3]
  obtain ⟨r, l, rfl⟩ : ∃ (r : Fin 512) (l : Fin 1024), y = ix2 r l := ⟨y 0, y 1, by funext a; fin_cases a <;> rfl⟩
  have e : ((View.whole main_v8).slice (win0_10.rect t)).emb (ix2 r l) = ix2 (at_row t r) l := by blk_ext [idx t]
  rw [e]
  refine (pay_o _ _ r l).trans ?_
  simp only [added m c t h3, (held m c t.val t.isLt _ _).1]
  rfl

/-- The kernel's result is the reference's. -/
theorem value : Cert.algebraic_MlpMidIdeal_RefMlpMidIdeal := by
  pair_intro
  · run_from Cert.MlpMidIdeal.Value.run_blocks m g
  · run_from Cert.RefMlpMidIdeal.Value.run m' g'
    refine (Ref.Mid.res_eq m' c).trans ?_
    rw [arr m c]
    have a := hagree c
    rw [a.1, a.2.1, a.2.2.1, a.2.2.2.1, a.2.2.2.2.1, a.2.2.2.2.2.1, a.2.2.2.2.2.2.1]

end Cert.Mlp.Mid
-- ==== Proof.Mlp.LastRef.lean ====
/-
  What the last call's reference computes.
-/
module

public import proofs.«01_k».proof.Proof.Mlp.Ref

@[expose] public section

set_option maxRecDepth 65536

noncomputable section

namespace Cert.Mlp.Ref.Last
open Idealize.ShloMosaic Cert.Norm
open Idealize.ShloMosaic.TcCoe
open Cert.RefMlpLastIdeal Cert.RefMlpLastIdeal.Gen

/-- A row after the projection. -/
def row (x : Vec Ideal S16384x1024 .f32) (y : Vec Ideal S16384x1024 .bf16) (w : Vec Ideal S1024x1024 .f32)
    (b : Vec Ideal S1024 .f32) (R : Fin 16384) (k : Fin 1024) : EReal :=
  x (ix2 R k) + b (ix1 k) + ∑ a : Fin 1024, y (ix2 R a) * w (ix2 a k)

/-- The result array's entries: a row and what the hidden units add to it, normalized. -/
def out (x : Vec Ideal S16384x1024 .f32) (y : Vec Ideal S16384x1024 .bf16) (w : Vec Ideal S1024x1024 .f32)
    (b g : Vec Ideal S1024 .f32) (w1 : Vec Ideal S1024x4096 .f32) (w2 : Vec Ideal S4096x1024 .f32) (gf : Vec Ideal S1024 .f32) :
    Vec Ideal S16384x1024 .f32 := fun i =>
  rms (fun k => row x y w b (i 0) k
      + total (rms (row x y w b (i 0)) fun k => g (ix1 k)) (fun k u => w1 (ix2 k u)) (fun u => w2 (ix2 u k)))
    (fun k => gf (ix1 k)) (i 1)

variable (m' : (ℓ : Loc nD τ sig) → Buf (Elt Ideal) ℓ) (c : Dev nD)

/-- The reference's rows after the projection. -/
def rows : FVec Ideal S16384x1024 .f32 :=
  addf (m' ((c.tc : Thread nD τ).loc main_arg0)) (addf (Host.dotGeneral (φ₂ := .f32)
    dot_S16384x1024_S1024x1024_S16384x1024_1_0_0_1_n_n none
    (extf .f32 (m' ((c.tc : Thread nD τ).loc main_arg1)) bitsLt_bf16_f32)
    (m' ((c.tc : Thread nD τ).loc main_arg2)))
    (broadcastInDim S16384x1024 ![0, 1] bcast_S1x1024_S16384x1024_0_1
      (broadcastInDim S1x1024 ![1] bcast_S1024_S1x1024_1 (m' ((c.tc : Thread nD τ).loc main_arg3)))))

/-- They are the rows after the projection. -/
theorem rows_at (r : Fin 16384) (k : Fin 1024) : rows m' c (ix2 r k)
    = row (m' ((c.tc : Thread nD τ).loc main_arg0)) (m' ((c.tc : Thread nD τ).loc main_arg1))
        (m' ((c.tc : Thread nD τ).loc main_arg2)) (m' ((c.tc : Thread nD τ).loc main_arg3)) r k := by
  pointwise [rows]
  rw [add_comm (Finset.sum _ _), ← add_assoc]
  rfl

/-- The reference's result, by its steps. -/
theorem res_steps : Value.res_out0 (F := Ideal) m' c
    = norm (addf (rows m' c) (feed (norm (rows m' c) (m' ((c.tc : Thread nD τ).loc main_arg4)))
          (m' ((c.tc : Thread nD τ).loc main_arg5)) (m' ((c.tc : Thread nD τ).loc main_arg6))))
          (m' ((c.tc : Thread nD τ).loc main_arg7)) := by
  unfold Value.res_out0 Value.res_main_v36 norm feed pos rows
  rfl

/-- The reference's result. -/
theorem res_eq : Value.res_out0 (F := Ideal) m' c
    = out (m' ((c.tc : Thread nD τ).loc main_arg0)) (m' ((c.tc : Thread nD τ).loc main_arg1))
        (m' ((c.tc : Thread nD τ).loc main_arg2)) (m' ((c.tc : Thread nD τ).loc main_arg3))
        (m' ((c.tc : Thread nD τ).loc main_arg4)) (m' ((c.tc : Thread nD τ).loc main_arg5))
        (m' ((c.tc : Thread nD τ).loc main_arg6)) (m' ((c.tc : Thread nD τ).loc main_arg7)) := by
  rw [res_steps]
  funext i
  obtain ⟨r, l, rfl⟩ : ∃ (r : Fin 16384) (l : Fin 1024), i = ix2 r l := ⟨i 0, i 1, by funext a; fin_cases a <;> rfl⟩
  refine (norm_at _ _ r l).trans (congrArg (fun x => rms x _ l) (funext fun k => ?_))
  refine congrArg₂ (· + ·) (rows_at m' c r k) ((feed_at _ _ _ r k).trans ?_)
  simp only [norm_at, rows_at]
  rfl

end Cert.Mlp.Ref.Last
-- ==== Proof.Mlp.Last.lean ====
/-
  The last call: projection, feed-forward part over four blocks of the hidden units, and the final normalization.
-/
module

public import proofs.«01_k».proof.Defs
public import proofs.«01_k».proof.Proof.Gen.MlpLastIdeal.Value
public import proofs.«01_k».proof.Proof.Gen.RefMlpLastIdeal.Run
public import proofs.«01_k».proof.Proof.Mlp.LastRef
public import Idealize.ShloMosaic.Lib.Pipeline.ValueKit
public import Idealize.ShloMosaic.Lib.Pipeline.ReadBack
public import Idealize.ShloMosaic.Lib.Claim
public import Idealize.ShloMosaic.Lib.Tactic.CleanTypes

@[expose] public section

set_option maxRecDepth 16384

noncomputable section

namespace Cert.Mlp.Last
open Idealize.ShloMosaic Cert.Norm Cert.Mlp.Ref.Last
open Idealize.ShloMosaic.TcCoe
open Cert.MlpLastIdeal Cert.MlpLastIdeal.Gen

/-- The projected row, read at a row and a column. -/
theorem pay_x (x : Vec Ideal S512x1024 .f32) (b : Vec Ideal S1x1024 .f32) (y : Vec Ideal S512x1024 .bf16)
    (w : Vec Ideal S1024x1024 .bf16) (r : Fin 512) (k : Fin 1024) :
    k0_pay1 (F := Ideal) x b y w (ix2 r k) = x (ix2 r k) + b (ix2 0 k) + ∑ a : Fin 1024, y (ix2 r a) * w (ix2 a k) := by
  pointwise [k0_pay1]

/-- The stored projected row is the projected row. -/
theorem pay_s (x : Vec Ideal S512x1024 .f32) (b : Vec Ideal S1x1024 .f32) (y : Vec Ideal S512x1024 .bf16)
    (w : Vec Ideal S1024x1024 .bf16) : k0_pay2 (F := Ideal) x b y w = k0_pay1 (F := Ideal) x b y w := shapeCast_self ..

/-- The normalized row, read at a row and a column. -/
theorem pay_h (x : Vec Ideal S512x1024 .f32) (b : Vec Ideal S1x1024 .f32) (y : Vec Ideal S512x1024 .bf16)
    (w : Vec Ideal S1024x1024 .bf16) (g : Vec Ideal S1x1024 .f32) (r : Fin 512) (k : Fin 1024) :
    k0_pay3 (F := Ideal) x b y w g (ix2 r k)
      = rms (fun j => k0_pay1 (F := Ideal) x b y w (ix2 r j)) (fun j => g (ix2 0 j)) k := by
  pointwise [k0_pay3]
  rfl

/-- One point's addition, read at a row and a column. -/
theorem pay_a (h : Vec Ideal S512x1024 .bf16) (w1 : Vec Ideal S1024x1024 .bf16) (a : Vec Ideal S512x1024 .f32)
    (w2 : Vec Ideal S1024x1024 .bf16) (r : Fin 512) (k : Fin 1024) : k0_pay5 (F := Ideal) h w1 a w2 (ix2 r k)
      = a (ix2 r k) + ∑ l : Fin 1024, unit (fun j => h (ix2 r j)) (fun j => w1 (ix2 j l)) * w2 (ix2 l k) := by
  pointwise [k0_pay5]
  rfl

/-- The final normalization, read at a row and a column. -/
theorem pay_o (x a : Vec Ideal S512x1024 .f32) (g : Vec Ideal S1x1024 .f32) (r : Fin 512) (k : Fin 1024) :
    k0_pay6 (F := Ideal) x a g (ix2 r k)
      = rms (fun j => x (ix2 r j) + a (ix2 r j)) (fun j => g (ix2 0 j)) k := by
  pointwise [k0_pay6]
  rfl

/-- Every window's block index at a grid point (decided). -/
theorem idx : ∀ t : Fin cfg0.N, win0_0.index t = ![t.val / 4, 0] ∧ win0_1.index t = ![t.val / 4, 0] ∧ win0_2.index t = ![0, 0]
    ∧ win0_3.index t = ![0, 0] ∧ win0_4.index t = ![0, 0] ∧ win0_5.index t = ![0, t.val % 4] ∧ win0_6.index t = ![t.val % 4, 0]
    ∧ win0_7.index t = ![0, 0] ∧ win0_8.index t = ![t.val / 4, 0] ∧ t.val < 128 :=
  (by decide +kernel : ∀ t : Fin grid0.N, _)

variable (m : (ℓ : Loc nD τ sig) → Buf (Elt Ideal) ℓ)

/-- The rows of a grid point. -/
theorem x_at (c : Dev nD) (t : Fin cfg0.N) (r : Fin 512) (k : Fin 1024) :
    iblk m c 0 t (ix2 r k) = m ((c.tc : Thread nD τ).loc main_arg0)
      (ix2 ⟨t.val / 4 * 512 + r, by have := (idx t).2.2.2.2.2.2.2.2.2; omega⟩ k) := by
  blk_ext [iblk, V, idx t]

/-- The mixer's rows of a grid point. -/
theorem y_at (c : Dev nD) (t : Fin cfg0.N) (r : Fin 512) (k : Fin 1024) :
    iblk m c 1 t (ix2 r k) = m ((c.tc : Thread nD τ).loc main_arg1)
      (ix2 ⟨t.val / 4 * 512 + r, by have := (idx t).2.2.2.2.2.2.2.2.2; omega⟩ k) := by
  blk_ext [iblk, V, idx t]

/-- The projection's matrix. -/
theorem p_at (c : Dev nD) (t : Fin cfg0.N) (a k : Fin 1024) :
    iblk m c 2 t (ix2 a k) = m ((c.tc : Thread nD τ).loc main_arg2) (ix2 a k) := by
  blk_simp [iblk, idx t]
  entry_read
  pointwise
  blk_ext [idx t]

/-- The projection's bias. -/
theorem b_at (c : Dev nD) (t : Fin cfg0.N) (k : Fin 1024) :
    iblk m c 3 t (ix2 0 k) = m ((c.tc : Thread nD τ).loc main_arg3) (ix1 k) := by
  blk_simp [iblk, idx t]
  entry_read
  pointwise
  blk_ext [idx t]

/-- The gains. -/
theorem g_at (c : Dev nD) (t : Fin cfg0.N) (k : Fin 1024) :
    iblk m c 4 t (ix2 0 k) = m ((c.tc : Thread nD τ).loc main_arg4) (ix1 k) := by
  blk_simp [iblk, idx t]
  entry_read
  pointwise
  blk_ext [idx t]

/-- A grid point's columns of the first matrix. -/
theorem w1_at (c : Dev nD) (t : Fin cfg0.N) (k l : Fin 1024) :
    iblk m c 5 t (ix2 k l) = m ((c.tc : Thread nD τ).loc main_arg5) (ix2 k ⟨t.val % 4 * 1024 + l.val, by omega⟩) := by
  blk_simp [iblk, idx t]
  entry_read
  pointwise
  blk_ext [idx t]

/-- A grid point's rows of the second matrix. -/
theorem w2_at (c : Dev nD) (t : Fin cfg0.N) (l k : Fin 1024) :
    iblk m c 6 t (ix2 l k) = m ((c.tc : Thread nD τ).loc main_arg6) (ix2 ⟨t.val % 4 * 1024 + l.val, by omega⟩ k) := by
  blk_simp [iblk, idx t]
  entry_read
  pointwise
  blk_ext [idx t]

/-- The final gains. -/
theorem gf_at (c : Dev nD) (t : Fin cfg0.N) (k : Fin 1024) :
    iblk m c 7 t (ix2 0 k) = m ((c.tc : Thread nD τ).loc main_arg7) (ix1 k) := by
  blk_simp [iblk, idx t]
  entry_read
  pointwise
  blk_ext [idx t]

/-- A row block's first point leaves the projected rows, their normalization, and the first block's product. -/
theorem first (c : Dev nD) (t : Fin cfg0.N) (h : t.val % 4 = 0) :
    (outsAt0 m c t.val t.isLt).2 =
      (k0_pay2 (iblk m c 0 t) (iblk m c 3 t) (iblk m c 1 t) (iblk m c 2 t),
       k0_pay3 (iblk m c 0 t) (iblk m c 3 t) (iblk m c 1 t) (iblk m c 2 t) (iblk m c 4 t),
       k0_pay5 (k0_pay3 (iblk m c 0 t) (iblk m c 3 t) (iblk m c 1 t) (iblk m c 2 t) (iblk m c 4 t)) (iblk m c 5 t)
         (k0_pay4 (F := Ideal)) (iblk m c 6 t)) := by
  rw [outsAt0_A m c t h (by omega)]
  dsimp only
  refine Prod.ext ?_ (Prod.ext ?_ ?_)
  · frame_out
  · frame_out
  · frame_out

/-- A later point keeps the rows and their normalization and adds its block's product. -/
theorem next (c : Dev nD) (t : Fin cfg0.N) (h : ¬t.val % 4 = 0) :
    (outsAt0 m c t.val t.isLt).2 =
      ((outsAt0 m c (t.val - 1) (Nat.lt_of_le_of_lt (Nat.sub_le _ _) t.isLt)).2.1,
       (outsAt0 m c (t.val - 1) (Nat.lt_of_le_of_lt (Nat.sub_le _ _) t.isLt)).2.2.1,
       k0_pay5 (outsAt0 m c (t.val - 1) (Nat.lt_of_le_of_lt (Nat.sub_le _ _) t.isLt)).2.2.1 (iblk m c 5 t)
         (outsAt0 m c (t.val - 1) (Nat.lt_of_le_of_lt (Nat.sub_le _ _) t.isLt)).2.2.2 (iblk m c 6 t)) := by
  by_cases h3 : t.val % 4 = 3
  · rw [outsAt0_C m c t h h3]
    refine Prod.ext (by dsimp only; unfold sout0_C_0; simp only [read_unread_whole]) (Prod.ext (by dsimp only; unfold sout0_C_1; simp only [read_unread_whole]) ?_)
    frame_out
    simp only [read_unread_whole]
  · rw [outsAt0_B m c t h h3]
    refine Prod.ext (by dsimp only; unfold sout0_B_0; simp only [read_unread_whole]) (Prod.ext (by dsimp only; unfold sout0_B_1; simp only [read_unread_whole]) ?_)
    frame_out
    simp only [read_unread_whole]

/-- A row block's last point leaves the normalized sum of the rows and what was added up. -/
theorem last (c : Dev nD) (t : Fin cfg0.N) (h : t.val % 4 = 3) :
    (outsAt0 m c t.val t.isLt).1
      = k0_pay6 (outsAt0 m c t.val t.isLt).2.1 (outsAt0 m c t.val t.isLt).2.2.2 (iblk m c 7 t) := by
  rw [next m c t (by omega), outsAt0_C m c t (by omega) h]
  frame_out
  simp only [read_unread_whole]

/-- The row that a grid point's local row is. -/
abbrev at_row (t : Fin cfg0.N) (r : Fin 512) : Fin 16384 :=
  ⟨t.val / 4 * 512 + r.val, by have := (idx t).2.2.2.2.2.2.2.2.2; omega⟩

/-- The rows after the projection, of the call's arguments. -/
abbrev rows (c : Dev nD) : Fin 16384 → Fin 1024 → EReal :=
  row (m ((c.tc : Thread nD τ).loc main_arg0)) (m ((c.tc : Thread nD τ).loc main_arg1))
    (m ((c.tc : Thread nD τ).loc main_arg2)) (m ((c.tc : Thread nD τ).loc main_arg3))

/-- The rows' normalization. -/
abbrev normed (c : Dev nD) (R : Fin 16384) : Fin 1024 → EReal :=
  rms (rows m c R) fun k => m ((c.tc : Thread nD τ).loc main_arg4) (ix1 k)

/-- The projected block at a grid point. -/
theorem pay_rows (c : Dev nD) (t : Fin cfg0.N) (r : Fin 512) (k : Fin 1024) :
    k0_pay1 (F := Ideal) (iblk m c 0 t) (iblk m c 3 t) (iblk m c 1 t) (iblk m c 2 t) (ix2 r k) = rows m c (at_row t r) k := by
  refine (pay_x _ _ _ _ r k).trans ?_
  simp only [x_at, y_at, p_at, b_at]
  rfl

/-- The normalized block at a grid point. -/
theorem pay_normed (c : Dev nD) (t : Fin cfg0.N) (r : Fin 512) (k : Fin 1024) :
    k0_pay3 (F := Ideal) (iblk m c 0 t) (iblk m c 3 t) (iblk m c 1 t) (iblk m c 2 t) (iblk m c 4 t) (ix2 r k)
      = normed m c (at_row t r) k := by
  refine (pay_h _ _ _ _ _ r k).trans ?_
  simp only [pay_rows, g_at]

/-- At every point the two carried blocks hold the row block's rows and their normalization. -/
theorem held (c : Dev nD) : ∀ (n : ℕ) (hn : n < cfg0.N) (r : Fin 512) (k : Fin 1024),
    (outsAt0 m c n hn).2.1 (ix2 r k) = rows m c (at_row ⟨n, hn⟩ r) k
      ∧ (outsAt0 m c n hn).2.2.1 (ix2 r k) = normed m c (at_row ⟨n, hn⟩ r) k := by
  intro n
  induction n with
  | zero =>
    intro hn r k
    have e := first m c ⟨0, hn⟩ rfl
    dsimp only at e
    rw [e, pay_s]
    exact ⟨pay_rows m c ⟨0, hn⟩ r k, pay_normed m c ⟨0, hn⟩ r k⟩
  | succ n ih =>
    intro hn r k
    by_cases h : (n + 1) % 4 = 0
    · have e := first m c ⟨n + 1, hn⟩ h
      dsimp only at e
      rw [e, pay_s]
      exact ⟨pay_rows m c ⟨n + 1, hn⟩ r k, pay_normed m c ⟨n + 1, hn⟩ r k⟩
    · have e := next m c ⟨n + 1, hn⟩ h
      dsimp only at e
      rw [e]
      have q : at_row ⟨n + 1, hn⟩ r = at_row ⟨n, by omega⟩ r := by
        apply Fin.ext
        show (n + 1) / 4 * 512 + r.val = n / 4 * 512 + r.val
        omega
      rw [q]
      exact ih (by omega) r k

/-- What a grid point adds to a column of a row. -/
abbrev term (c : Dev nD) (t : Fin cfg0.N) (j : S512x1024.Idx) : EReal :=
  part (normed m c (at_row t (j 0))) (fun k u => m ((c.tc : Thread nD τ).loc main_arg5) (ix2 k u))
    (fun u => m ((c.tc : Thread nD τ).loc main_arg6) (ix2 u (j 1))) ⟨t.val % 4, by omega⟩

/-- A point's addition to what is added up, over the normalized block `h`. -/
theorem pay_term (c : Dev nD) (t : Fin cfg0.N) (h : Vec Ideal S512x1024 .bf16) (a : Vec Ideal S512x1024 .f32)
    (hh : ∀ r k, h (ix2 r k) = normed m c (at_row t r) k) (r : Fin 512) (k : Fin 1024) :
    k0_pay5 (F := Ideal) h (iblk m c 5 t) a (iblk m c 6 t) (ix2 r k) = a (ix2 r k) + term m c t (ix2 r k) := by
  refine (pay_a _ _ _ _ r k).trans ?_
  simp only [hh, w1_at, w2_at]
  rfl

/-- At a row block's last point all hidden units have been added up. -/
theorem added (c : Dev nD) (t : Fin cfg0.N) (h : t.val % 4 = 3) (r : Fin 512) (k : Fin 1024) :
    (outsAt0 m c t.val t.isLt).2.2.2 (ix2 r k)
      = total (normed m c (at_row t r)) (fun k u => m ((c.tc : Thread nD τ).loc main_arg5) (ix2 k u))
          (fun u => m ((c.tc : Thread nD τ).loc main_arg6) (ix2 u k)) := by
  rw [Pipeline.eq_sum_fin_of_reset_step_apply_of_flush (fun n h => (outsAt0 m c n h).2.2.2) 4 (fun _ => (0 : EReal)) (term m c)
    (fun t h j => by
      obtain ⟨r, k, rfl⟩ : ∃ (r : Fin 512) (k : Fin 1024), j = ix2 r k := ⟨j 0, j 1, by funext a; fin_cases a <;> rfl⟩
      rw [first m c t h]
      refine (pay_term m c t _ _ (pay_normed m c t) r k).trans ?_
      pointwise [k0_pay4])
    (fun t h j => by
      obtain ⟨r, k, rfl⟩ : ∃ (r : Fin 512) (k : Fin 1024), j = ix2 r k := ⟨j 0, j 1, by funext a; fin_cases a <;> rfl⟩
      rw [next m c t h]
      refine pay_term m c t _ _ (fun r k => ?_) r k
      refine ((held m c (t.val - 1) _ r k).2).trans ?_
      have q : at_row ⟨t.val - 1, by omega⟩ r = at_row t r := by
        apply Fin.ext
        show (t.val - 1) / 4 * 512 + r.val = t.val / 4 * 512 + r.val
        omega
      rw [q])
    t h (ix2 r k), zero_add, ← sum_part]
  refine Finset.sum_congr rfl fun s _ => ?_
  have q : at_row ⟨4 * (t.val / 4) + s.val, by have := t.isLt; have := (idx t).2.2.2.2.2.2.2.2.2; have : cfg0.N = 128 := N_0; omega⟩ r = at_row t r := by
    apply Fin.ext
    show (4 * (t.val / 4) + s.val) / 4 * 512 + r.val = t.val / 4 * 512 + r.val
    omega
  have q' : (⟨(4 * (t.val / 4) + s.val) % 4, by omega⟩ : Fin 4) = s := by
    apply Fin.ext
    show (4 * (t.val / 4) + s.val) % 4 = s.val
    omega
  dsimp only [term]
  exact congrArg₂ (fun R s => part (normed m c R) (fun k u => m ((c.tc : Thread nD τ).loc main_arg5) (ix2 k u))
    (fun u => m ((c.tc : Thread nD τ).loc main_arg6) (ix2 u k)) s) q q'

/-- The kernel's result array. -/
theorem arr (c : Dev nD) :
    (dats m 0 c).arrAt 8 cfg0.N = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  refine (dats m 0 c).arrAt_eq_of_covers 8 _ (by decide +kernel) fun t hf y => ?_
  have h3 : t.val % 4 = 3 := (flush0_8 t).mp hf
  blk_simp
  rw [after0_8, last m c t h3]
  obtain ⟨r, l, rfl⟩ : ∃ (r : Fin 512) (l : Fin 1024), y = ix2 r l := ⟨y 0, y 1, by funext a; fin_cases a <;> rfl⟩
  have e : ((View.whole main_v6).slice (win0_8.rect t)).emb (ix2 r l) = ix2 (at_row t r) l := by blk_ext [idx t]
  rw [e]
  refine (pay_o _ _ _ r l).trans ?_
  simp only [gf_at, added m c t h3, (held m c t.val t.isLt _ _).1]
  rfl

/-- The kernel's result is the reference's. -/
theorem value : Cert.algebraic_MlpLastIdeal_RefMlpLastIdeal := by
  pair_intro
  · run_from Cert.MlpLastIdeal.Value.run_blocks m g
  · run_from Cert.RefMlpLastIdeal.Value.run m' g'
    refine (Ref.Last.res_eq m' c).trans ?_
    rw [arr m c]
    have a := hagree c
    rw [a.1, a.2.1, a.2.2.1, a.2.2.2.1, a.2.2.2.2.1, a.2.2.2.2.2.1, a.2.2.2.2.2.2.1, a.2.2.2.2.2.2.2]

end Cert.Mlp.Last
-- ==== Proof.Prep.Spec.lean ====
/-
  The preparation of the recurrence's inputs: the token shift, the low-rank matrices laid out as one, and the decay.
-/
module

public import Idealize.ShloMosaic.Lib.Pointwise
public import Idealize.ShloMosaic.PureOps.Ideal
public import Idealize.ShloMosaic.Lib.Routing.OpsOne

@[expose] public section

noncomputable section

namespace Cert.PrepSpec
open Idealize.ShloMosaic hiding ix1 ix2 eq_ix1 eq_ix2
open Idealize.ShloMosaic.Routing Idealize.ShloMosaic.ValueIdx

/-- A sum whose terms are zero off a band is the sum over the band. -/
theorem sum_band {N n : ℕ} (o : ℕ) (h : o + n ≤ N) (f : Fin N → EReal) (g : Fin n → EReal)
    (hin : ∀ j : Fin n, f ⟨o + j, by omega⟩ = g j) (hout : ∀ k : Fin N, k.val < o ∨ o + n ≤ k.val → f k = 0) :
    ∑ k, f k = ∑ j, g j := by
  refine (Finset.sum_of_injOn (fun j : Fin n => (⟨o + j, by omega⟩ : Fin N)) ?_ (fun _ _ => Finset.mem_coe.2 (Finset.mem_univ _)) ?_ ?_).symm
  · intro a _ b _ e
    exact Fin.ext (by have := congrArg Fin.val e; simp at this; omega)
  · intro k _ hk
    refine hout k (by_contra fun q => hk ⟨⟨k - o, by omega⟩, Finset.mem_coe.2 (Finset.mem_univ _), Fin.ext ?_⟩)
    show o + (k.val - o) = k.val
    omega
  · exact fun j _ => (hin j).symm

/-- An update of a block written at a pair of index words lands at the words plus its place in the block. -/
theorem lands_block {R C U V w : ℕ} (d : ScatterDims (shape2 R C) (shape1 2) (shape2 U V)) (hu : d.updateWindowDims = [0, 1])
    (hiw : d.insertedWindowDims = []) (hsd : d.scatterDimsToOperandDims = [0, 1]) (hivd : d.indexVectorDim = 0) (idx : IVec (shape1 2) w)
    (a : Fin U) (b : Fin V) (r : Fin R) (c : Fin C) :
    d.resultIdx? (ix2 a b) idx = some (ix2 r c)
      ↔ (idx (ix1 (0 : Fin 2))).toInt + (a.val : Int) = r.val ∧ (idx (ix1 (1 : Fin 2))).toInt + (b.val : Int) = c.val := by
  have hw : d.window (ix2 a b) 0 = a.val ∧ d.window (ix2 a b) 1 = b.val := by
    obtain ⟨uw, iw, sd, iv, wf⟩ := d
    dsimp only at hu hiw hsd hivd
    subst hu hiw hsd hivd
    exact ⟨rfl, rfl⟩
  rw [resultIdx?_ix2, start_pair d hsd hivd, start_pair d hsd hivd, hw.1, hw.2]

/-- A block written into a matrix, read back: the block's entry inside it, the matrix's outside. -/
theorem scatter_block {α : Type} {R C U V w : ℕ} (d : ScatterDims (shape2 R C) (shape1 2) (shape2 U V)) (hu : d.updateWindowDims = [0, 1])
    (hiw : d.insertedWindowDims = []) (hsd : d.scatterDimsToOperandDims = [0, 1]) (hivd : d.indexVectorDim = 0)
    (x : (shape2 R C).Idx → α) (idx : IVec (shape1 2) w) (v : (shape2 U V).Idx → α) (i j : ℕ)
    (hi : (idx (ix1 (0 : Fin 2))).toInt = i) (hj : (idx (ix1 (1 : Fin 2))).toInt = j) (r : Fin R) (c : Fin C) :
    Host.scatter d (fun _ b => b) x idx v (ix2 r c)
      = if h : (i ≤ r.val ∧ r.val < i + U) ∧ j ≤ c.val ∧ c.val < j + V then v (ix2 ⟨r - i, by omega⟩ ⟨c - j, by omega⟩) else x (ix2 r c) := by
  have lands : ∀ k : (shape2 U V).Idx, d.resultIdx? k idx = some (ix2 r c) →
      (i : Int) + ((k 0).val : Int) = r.val ∧ (j : Int) + ((k 1).val : Int) = c.val := fun k hk => by
    rw [← hi, ← hj]
    exact (lands_block d hu hiw hsd hivd idx (k 0) (k 1) r c).1 ((congrArg (fun t => d.resultIdx? t idx) (eq_ix2 k).symm).trans hk)
  by_cases h : (i ≤ r.val ∧ r.val < i + U) ∧ j ≤ c.val ∧ c.val < j + V
  · rw [dif_pos h]
    refine scatter_set_hit d x idx v _ _ (fun k hk => ?_) (ix2 ⟨r - i, by omega⟩ ⟨c - j, by omega⟩)
      ((lands_block d hu hiw hsd hivd idx _ _ r c).2 ⟨?_, ?_⟩)
    · have q := lands k hk
      rw [eq_ix2 k]
      refine congrArg₂ (fun a b => v (ix2 a b)) (Fin.ext ?_) (Fin.ext ?_)
      · show (k 0).val = r.val - i
        omega
      · show (k 1).val = c.val - j
        omega
    · rw [hi]
      show (i : Int) + ((r.val - i : ℕ) : Int) = r.val
      omega
    · rw [hj]
      show (j : Int) + ((c.val - j : ℕ) : Int) = c.val
      omega
  · rw [dif_neg h]
    refine scatter_set_miss d x idx v _ fun k hk => h ?_
    have q := lands k hk
    have h0 : (k 0).val < U := (k 0).isLt
    have h1 : (k 1).val < V := (k 1).isLt
    omega

/-- The logarithm of the decay, from the decay's argument. -/
def decay (z : EReal) : EReal :=
  -Ideal.exp (-(max (-z) 0 + Ideal.log1p (Ideal.exp (-(max (-z) (- -z))))) - Ideal.ofBits .f32 0x3F000000#32)

end Cert.PrepSpec
-- ==== Proof.Prep.Kernel.lean ====
/-
  The preparation kernel's result arrays.
-/
module

public import proofs.«01_k».proof.Proof.Gen.PrepIdeal.Value
public import Idealize.ShloMosaic.Lib.Pipeline.ValueKit
public import proofs.«01_k».proof.Proof.Prep.Spec
public import Idealize.ShloMosaic.Lib.WordCmp

@[expose] public section

set_option maxRecDepth 16384

noncomputable section

namespace Cert.PrepSpec
open Idealize.ShloMosaic Cert.PrepIdeal Cert.PrepIdeal.Gen
open Idealize.ShloMosaic.TcCoe Idealize.ShloMosaic.WordCmp

/-- A choice by a decided proposition. -/
theorem sel_of {α : Type} (q : Prop) [Decidable q] (x y : α) : Scalar.select (BitVec.ofBool (decide q)) x y = if q then x else y := by
  by_cases h : q <;> simp [Scalar.select, h]

/-- The projection mixed with the previous time's, which is zero at the first time. -/
def mixed (p : Vec Ideal S8x2048x1792 .f32) (mu : Vec Ideal S1792 .f32) (b : Fin 8) (t : Fin 2048) (c : Fin 1792) : EReal :=
  p (ix3 b t c) + ((if t.val = 0 then 0 else p (ix3 b ⟨t - 1, by omega⟩ c)) - p (ix3 b t c)) * mu (ix1 c)

/-- The kernel's mixing of a block of times. -/
theorem pay3 (i : grid0.Coords) (v0 : Vec Ideal S1x512x1792 .f32) (v3 : Vec Ideal S1x1x1792 .f32) (v15 : Vec Ideal S1x1792 .f32)
    (r : Fin 512) (c : Fin 1792) : k0_pay3 (F := Ideal) i v0 v3 v15 (ix2 r c) =
      v0 (ix3 0 r c) + ((if r.val = 0 then (if 0 < (i 1).val then v3 (ix3 0 0 c) else 0) else v0 (ix3 0 ⟨r - 1, by omega⟩ c))
        - v0 (ix3 0 r c)) * v15 (ix2 0 c) := by
  have hi : (i 1).val < 4 := (i 1).isLt
  pointwise [k0_pay3]
  unfold Scalar.cmpi
  rw [cmpi_eq_ofNat (by omega) (by omega), cmpi_sgt_ofNat (by omega) (by omega), sel_of, sel_of]
  by_cases h : r.val = 0
  · rw [if_pos h, if_pos h]
  · rw [if_neg h, if_neg h, show (⟨(r.val + 512 - 1) % 512, by omega⟩ : Fin 512) = ⟨r - 1, by omega⟩ from Fin.ext (by simp only []; omega)]

/-- What the low-rank product is taken of: `tanh`, nothing and the logistic function on its three bands. -/
def act (z : Fin 256 → EReal) (x : Fin 256) : EReal :=
  if x.val < 64 then Ideal.tanh (z x) else if x.val < 128 then z x else Ideal.logistic (z x)

/-- The low-rank product: a sum over the rows of the one matrix. -/
theorem pay8 (v32 : Vec Ideal S512x256 .f32) (v43 : Vec Ideal S256x1536 .bf16) (v46 : Vec Ideal S1x1536 .f32)
    (r : Fin 512) (c : Fin 1536) : k0_pay8 (F := Ideal) v32 (iota .tc S512x256 32 [1] iota_S512x256_d1_w32) v43 v46 (ix2 r c) =
      (∑ x : Fin 256, act (fun x => v32 (ix2 r x)) x * v43 (ix2 x c)) + v46 (ix2 0 c) := by
  pointwise [k0_pay8]
  refine congrArg (· + _) (Finset.sum_congr rfl fun x _ => ?_)
  rw [cmpi_slt_ofNat (by omega) (by omega), cmpi_slt_ofNat (by omega) (by omega), sel_of, sel_of]
  rfl

/-- The decay's store. -/
theorem pay9 (v32 : Vec Ideal S512x256 .f32) (v43 : Vec Ideal S256x1536 .bf16) (v46 : Vec Ideal S1x1536 .f32) (v33)
    (r : Fin 512) (c : Fin 512) : k0_pay9 (F := Ideal) v32 v33 v43 v46 (ix3 0 r c)
      = decay (k0_pay8 (F := Ideal) v32 v33 v43 v46 (ix2 r ⟨c, by omega⟩)) := by
  pointwise [k0_pay9]
  simp only [zero_sub]
  generalize k0_pay8 (F := Ideal) v32 v33 v43 v46 (ix2 r ⟨c, by omega⟩) = z
  unfold decay
  rw [show FloatOps.absf (F := Ideal) (φ := .f32) z = max (-z) (- -z) by rw [neg_neg, max_comm]; rfl]
  rfl

variable (m : (ℓ : Loc nD τ sig) → Buf (Elt Ideal) ℓ)

/-- Every window's block index at a grid point (decided). -/
theorem idx : ∀ t : Fin cfg0.N, win0_0.index t = ![(grid0.coords t 0).val, (grid0.coords t 1).val, 0]
    ∧ win0_1.index t = ![(grid0.coords t 0).val, (grid0.coords t 1).val * 64 - 1, 0]
    ∧ win0_2.index t = ![0, 0] ∧ win0_3.index t = ![0, 0] ∧ win0_4.index t = ![0, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0]
    ∧ win0_9.index t = ![(grid0.coords t 0).val, (grid0.coords t 1).val, 0]
    ∧ win0_10.index t = ![(grid0.coords t 0).val, (grid0.coords t 1).val, 0]
    ∧ (grid0.coords t 0).val < 8 ∧ (grid0.coords t 1).val < 4 :=
  (by decide +kernel : ∀ t : Fin grid0.N, _)

/-- The three low-rank matrices in one. -/
def lora (w : Vec Ideal S64x512 .f32) (a : Vec Ideal S64x512 .f32) (g : Vec Ideal S128x512 .f32) (k : Fin 256) (l : Fin 1536) : EReal :=
  if h : (128 ≤ k.val ∧ k.val < 128 + 128) ∧ 1024 ≤ l.val ∧ l.val < 1024 + 512 then g (ix2 ⟨k - 128, by omega⟩ ⟨l - 1024, by omega⟩)
  else if h : (64 ≤ k.val ∧ k.val < 64 + 64) ∧ 512 ≤ l.val ∧ l.val < 512 + 512 then a (ix2 ⟨k - 64, by omega⟩ ⟨l - 512, by omega⟩)
  else if h : (0 ≤ k.val ∧ k.val < 0 + 64) ∧ 0 ≤ l.val ∧ l.val < 0 + 512 then w (ix2 ⟨k - 0, by omega⟩ ⟨l - 0, by omega⟩)
  else 0

/-- The one matrix that holds the three low-rank ones. -/
theorem w_at (c : Dev nD) (t : Fin cfg0.N) (k : Fin 256) (l : Fin 1536) :
    iblk m c 3 t (ix2 k l)
      = lora (m ((c.tc : Thread nD τ).loc main_arg3)) (m ((c.tc : Thread nD τ).loc main_arg5)) (m ((c.tc : Thread nD τ).loc main_arg6)) k l := by
  blk_simp [iblk, idx t]
  entry_read
  pointwise
  rw [show ((View.whole main_v17).slice (win0_3.rect t)).emb (ix2 k l) = ix2 k l by blk_ext [idx t]]
  refine (scatter_block _ rfl rfl rfl rfl _ _ _ 128 1024 (by decide) (by decide) k l).trans ?_
  refine dite_congr rfl (fun _ => rfl) fun _ => ?_
  refine (scatter_block _ rfl rfl rfl rfl _ _ _ 64 512 (by decide) (by decide) k l).trans ?_
  refine dite_congr rfl (fun _ => rfl) fun _ => ?_
  refine (scatter_block _ rfl rfl rfl rfl _ _ _ 0 0 (by decide) (by decide) k l).trans ?_
  refine dite_congr rfl (fun _ => rfl) fun _ => ?_
  pointwise

/-- The biases in one row, and zero past them. -/
def biases (w a : Vec Ideal S512 .f32) (l : Fin 1536) : EReal :=
  if h : l.val < 512 then w (ix1 ⟨l, h⟩) else if h : l.val < 1024 then a (ix1 ⟨l - 512, by omega⟩) else 0

/-- Two rows and a row of zeros, one after another. -/
theorem row_of (H G : Valuation τ sig (Elt Ideal)) (h2 : H (Proc.devRef .tc main_arg2) = G (Proc.devRef .tc main_arg2))
    (h4 : H (Proc.devRef .tc main_arg4) = G (Proc.devRef .tc main_arg4))
    (h13 : H (Proc.devRef .tc main_v13) = broadcastInDim S512 ![] bcast_S_S512 (constant (F := Ideal) S_ FTy.f32 0#32)) (l : Fin 1536) :
    shapeCast (α := Elt Ideal .f32) S1x1536 (concatenate S1536 0 [⟨S512, H (Proc.devRef .tc main_arg2)⟩, ⟨S512, H (Proc.devRef .tc main_arg4)⟩,
      ⟨S512, H (Proc.devRef .tc main_v13)⟩] concatenates_S512_S512_S512_S1536_d0) shapeCasts_S1536_S1x1536 (ix2 0 l)
      = biases (G (Proc.devRef .tc main_arg2)) (G (Proc.devRef .tc main_arg4)) l := by
  rw [h2, h4, h13]
  pointwise
  unfold biases
  refine dite_congr rfl (fun _ => rfl) fun _ => dite_congr (propext (by omega)) (fun _ => rfl) fun _ => rfl

/-- What the last host operations leave in the row of biases, whatever came before them. -/
theorem tail_biases (G : Valuation τ sig (Elt Ideal)) (l : Fin 1536) :
    StableHlo.after (hostOps0.drop 20) G (Proc.devRef .tc main_v15) (ix2 0 l)
      = biases (G (Proc.devRef .tc main_arg2)) (G (Proc.devRef .tc main_arg4)) l := by
  simp only [hostOps0, List.drop_succ_cons, List.drop_zero]
  simp (disch := decide) only [StableHlo.after_cons, StableHlo.after_nil, StableHlo.unary_result_ne', StableHlo.reshape_result_ne',
    StableHlo.reshape_result']
  rw [StableHlo.nary_result']
  refine row_of _ G ?_ ?_ ?_ l
  all_goals simp (disch := decide) only [StableHlo.unary_result_ne', StableHlo.nullary_result_ne', StableHlo.unary_result', StableHlo.nullary_result']

/-- The last host operations leave the arguments alone. -/
theorem tail_arg (G : Valuation τ sig (Elt Ideal)) :
    StableHlo.after (hostOps0.drop 20) G (Proc.devRef .tc main_arg2) = G (Proc.devRef .tc main_arg2)
    ∧ StableHlo.after (hostOps0.drop 20) G (Proc.devRef .tc main_arg4) = G (Proc.devRef .tc main_arg4) := by
  simp only [hostOps0, List.drop_succ_cons, List.drop_zero]
  constructor <;> simp (disch := decide) only [StableHlo.after_cons, StableHlo.after_nil, StableHlo.unary_result_ne', StableHlo.reshape_result_ne',
    StableHlo.nary_result_ne', StableHlo.nullary_result_ne']

/-- The biases of a grid point. -/
theorem b_at (c : Dev nD) (t : Fin cfg0.N) (l : Fin 1536) :
    iblk m c 4 t (ix2 0 l) = biases (m ((c.tc : Thread nD τ).loc main_arg2)) (m ((c.tc : Thread nD τ).loc main_arg4)) l := by
  blk_simp [iblk, idx t]
  rw [show ((View.whole main_v15).slice (win0_4.rect t)).emb (ix2 0 l) = ix2 0 l by blk_ext [idx t]]
  have h := tail_biases (StableHlo.after (hostOps0.take 20) fun b => m (c, b)) l
  have e := tail_arg (StableHlo.after (hostOps0.take 20) fun b => m (c, b))
  rw [← e.1, ← e.2] at h
  refine h.trans ?_
  exact congrArg₂ (fun x y => biases x y l) (V_main_arg2 m c) (V_main_arg4 m c)

/-- The eighth row of the eight times before a block. -/
theorem ld7 (x : Vec Ideal S1x8x1792 .f32) (k : Fin 1792) : View.ld x r0_1 (ix3 0 0 k) = x (ix3 0 7 k) := by
  refine congrArg x (funext fun a => Fin.ext ?_)
  rw [Rect.idx_unit_val]
  fin_cases a <;> simp

/-- The times of a grid point. -/
theorem x_at (c : Dev nD) (t : Fin cfg0.N) (b : Fin 8) (n : Fin 4) (hb : (grid0.coords t 0).val = b) (hn : (grid0.coords t 1).val = n)
    (r : Fin 512) (k : Fin 1792) :
    iblk m c 0 t (ix3 0 r k) = m ((c.tc : Thread nD τ).loc main_arg0) (ix3 b ⟨n * 512 + r, by omega⟩ k) := by
  blk_ext [iblk, V, idx t]

/-- The last of the eight times before them. -/
theorem h_at (c : Dev nD) (t : Fin cfg0.N) (b : Fin 8) (n : Fin 4) (hb : (grid0.coords t 0).val = b) (hn : (grid0.coords t 1).val = n)
    (h : n.val ≠ 0) (k : Fin 1792) :
    iblk m c 1 t (ix3 0 7 k) = m ((c.tc : Thread nD τ).loc main_arg0) (ix3 b ⟨n * 512 - 1, by omega⟩ k) := by
  blk_ext [iblk, V, idx t]

/-- The mixing's weights. -/
theorem mu_at (c : Dev nD) (t : Fin cfg0.N) (k : Fin 1792) :
    iblk m c 2 t (ix2 0 k) = m ((c.tc : Thread nD τ).loc main_arg1) (ix1 k) := by
  blk_simp [iblk, idx t]
  entry_read
  pointwise
  blk_ext [idx t]

/-- Mixing equals, from equals. -/
theorem mix_congr (p q : EReal) {u v : EReal} (h : u = v) : p + (u - p) * q = p + (v - p) * q := by rw [h]

/-- The mixed projection of a grid point's times. -/
theorem mix_at (c : Dev nD) (t : Fin cfg0.N) (b : Fin 8) (n : Fin 4) (hb : (grid0.coords t 0).val = b) (hn : (grid0.coords t 1).val = n)
    (r : Fin 512) (k : Fin 1792) :
    k0_pay3 (F := Ideal) (grid0.coords t) (iblk m c 0 t) (View.ld (iblk m c 1 t) r0_1) (iblk m c 2 t) (ix2 r k)
      = mixed (m ((c.tc : Thread nD τ).loc main_arg0)) (m ((c.tc : Thread nD τ).loc main_arg1)) b ⟨n * 512 + r, by omega⟩ k := by
  rw [pay3, ld7, mu_at, hn, x_at m c t b n hb hn, x_at m c t b n hb hn]
  unfold mixed
  refine mix_congr _ _ ?_
  by_cases hr : r.val = 0
  · rw [if_pos hr]
    by_cases h : n.val = 0
    · rw [if_neg (by omega), if_pos (by simp only []; omega)]
    · rw [if_pos (by omega), if_neg (by simp only []; omega), h_at m c t b n hb hn h]
      exact congrArg (fun u => m ((c.tc : Thread nD τ).loc main_arg0) (ix3 b u k)) (Fin.ext (by simp only []; omega))
  · rw [if_neg hr, if_neg (by simp only []; omega)]
    exact congrArg (fun u => m ((c.tc : Thread nD τ).loc main_arg0) (ix3 b u k)) (Fin.ext (by simp only []; omega))

/-- The last 256 columns of the mixed projection at one time. -/
def low (p : Vec Ideal S8x2048x1792 .f32) (mu : Vec Ideal S1792 .f32) (b : Fin 8) (t : Fin 2048) (x : Fin 256) : EReal :=
  mixed p mu b t ⟨1536 + x, by omega⟩

/-- The low-rank product of a grid point's times. -/
theorem low_at (c : Dev nD) (t : Fin cfg0.N) (b : Fin 8) (n : Fin 4) (hb : (grid0.coords t 0).val = b) (hn : (grid0.coords t 1).val = n)
    (r : Fin 512) (l : Fin 1536) :
    k0_pay8 (F := Ideal) (k0_pay7 (grid0.coords t) (iblk m c 0 t) (View.ld (iblk m c 1 t) r0_1) (iblk m c 2 t))
        (iota .tc S512x256 32 [1] iota_S512x256_d1_w32) (iblk m c 3 t) (iblk m c 4 t) (ix2 r l)
      = (∑ x : Fin 256, act (low (m ((c.tc : Thread nD τ).loc main_arg0)) (m ((c.tc : Thread nD τ).loc main_arg1)) b ⟨n * 512 + r, by omega⟩) x
          * lora (m ((c.tc : Thread nD τ).loc main_arg3)) (m ((c.tc : Thread nD τ).loc main_arg5)) (m ((c.tc : Thread nD τ).loc main_arg6)) x l)
        + biases (m ((c.tc : Thread nD τ).loc main_arg2)) (m ((c.tc : Thread nD τ).loc main_arg4)) l := by
  rw [pay8, b_at]
  simp only [w_at]
  refine congrArg (· + _) (Finset.sum_congr rfl fun x _ => congrArg (· * _) (congrArg (fun z => act z x) (funext fun y => ?_)))
  refine Eq.trans ?_ (mix_at m c t b n hb hn r ⟨1536 + y, by omega⟩)
  pointwise [k0_pay7]

/-- The decay's columns take the first band. -/
theorem band_w (z : Fin 256 → EReal) (w a g) (l : Fin 512) :
    ∑ x, act z x * lora w a g x ⟨l, by omega⟩ = ∑ j : Fin 64, Ideal.tanh (z ⟨j, by omega⟩) * w (ix2 j l) :=
  sum_band 0 (by omega) _ _ (fun j => by
    unfold act lora
    rw [if_pos (by simp only []; omega), dif_neg (by simp only []; omega), dif_neg (by simp only []; omega), dif_pos (by simp only []; omega)]
    simp) fun k hk => by
    unfold lora
    rw [dif_neg (by simp only []; omega), dif_neg (by simp only []; omega), dif_neg (by simp only []; omega), mul_zero]

/-- The rate's columns take the second. -/
theorem band_a (z : Fin 256 → EReal) (w a g) (l : Fin 512) :
    ∑ x, act z x * lora w a g x ⟨512 + l, by omega⟩ = ∑ j : Fin 64, z ⟨64 + j, by omega⟩ * a (ix2 j l) :=
  sum_band 64 (by omega) _ _ (fun j => by
    unfold act lora
    rw [if_neg (by simp only []; omega), if_pos (by simp only []; omega), dif_neg (by simp only []; omega), dif_pos (by simp only []; omega)]
    simp) fun k hk => by
    unfold lora
    rw [dif_neg (by simp only []; omega), dif_neg (by simp only []; omega), dif_neg (by simp only []; omega), mul_zero]

/-- The gate's columns take the third. -/
theorem band_g (z : Fin 256 → EReal) (w a g) (l : Fin 512) :
    ∑ x, act z x * lora w a g x ⟨1024 + l, by omega⟩ = ∑ j : Fin 128, Ideal.logistic (z ⟨128 + j, by omega⟩) * g (ix2 j l) :=
  sum_band 128 (by omega) _ _ (fun j => by
    unfold act lora
    rw [if_neg (by simp only []; omega), if_neg (by simp only []; omega), dif_pos (by simp only []; omega)]
    simp) fun k hk => by
    unfold lora
    rw [dif_neg (by simp only []; omega), dif_neg (by simp only []; omega), dif_neg (by simp only []; omega), mul_zero]

end Cert.PrepSpec
-- ==== Proof.Prep.Arrays.lean ====
/-
  The preparation: the kernel's six result arrays, the reference's, and the claims.
-/
module

public import proofs.«01_k».proof.Defs
public import proofs.«01_k».proof.Proof.Gen.Prep
public import proofs.«01_k».proof.Proof.Gen.Prep.Frame
public import proofs.«01_k».proof.Proof.Gen.PrepIdeal
public import proofs.«01_k».proof.Proof.Gen.RefPrepIdeal
public import proofs.«01_k».proof.Proof.Gen.RefPrepIdeal.Run
public import Idealize.ShloMosaic.Lib.Tactic.CleanTypes
public import proofs.«01_k».proof.Proof.Prep.Kernel
public import Idealize.ShloMosaic.Lib.Pipeline.ValueKit
public import Idealize.ShloMosaic.Lib.Claim

@[expose] public section

set_option maxRecDepth 16384

noncomputable section

namespace Cert.PrepSpec
open Idealize.ShloMosaic Cert.PrepIdeal Cert.PrepIdeal.Gen
open Idealize.ShloMosaic.TcCoe

/-- 512 columns of the mixed projection, from column `o` on. -/
def cols (o : ℕ) (h : o + 512 ≤ 1792) (p : Vec Ideal S8x2048x1792 .f32) (mu : Vec Ideal S1792 .f32) : Vec Ideal S8x2048x512 .f32 :=
  fun i => mixed p mu (i 0) (i 1) ⟨o + (i 2).val, by have := (i 2).isLt; simp at this; omega⟩

/-- The logarithm of the decay. -/
def decays (p : Vec Ideal S8x2048x1792 .f32) (mu : Vec Ideal S1792 .f32) (b : Vec Ideal S512 .f32) (w : Vec Ideal S64x512 .f32) :
    Vec Ideal S8x2048x512 .f32 :=
  fun i => decay (b (ix1 (i 2)) + ∑ j : Fin 64, Ideal.tanh (mixed p mu (i 0) (i 1) ⟨1536 + j, by omega⟩) * w (ix2 j (i 2)))

/-- The rate. -/
def rates (p : Vec Ideal S8x2048x1792 .f32) (mu : Vec Ideal S1792 .f32) (b : Vec Ideal S512 .f32) (w : Vec Ideal S64x512 .f32) :
    Vec Ideal S8x2048x512 .f32 :=
  fun i => Ideal.logistic (b (ix1 (i 2)) + ∑ j : Fin 64, mixed p mu (i 0) (i 1) ⟨1600 + j, by omega⟩ * w (ix2 j (i 2)))

/-- The gate. -/
def gates (p : Vec Ideal S8x2048x1792 .f32) (mu : Vec Ideal S1792 .f32) (w : Vec Ideal S128x512 .f32) :
    Vec Ideal S8x2048x512 .f32 :=
  fun i => ∑ j : Fin 128, Ideal.logistic (mixed p mu (i 0) (i 1) ⟨1664 + j, by omega⟩) * w (ix2 j (i 2))

/-- The mixed projection depends on the number of the column only. -/
theorem mixed_congr (p : Vec Ideal S8x2048x1792 .f32) (mu : Vec Ideal S1792 .f32) (b : Fin 8) (t : Fin 2048) {k k' : Fin 1792}
    (h : k.val = k'.val) : mixed p mu b t k = mixed p mu b t k' := by rw [Fin.ext h]

variable (m : (ℓ : Loc nD τ sig) → Buf (Elt Ideal) ℓ)

/-- A grid point's coordinates. -/
theorem coords_at (t : Fin cfg0.N) : ∃ (b : Fin 8) (n : Fin 4), (grid0.coords t 0).val = b ∧ (grid0.coords t 1).val = n :=
  ⟨⟨_, (idx t).2.2.2.2.2.2.2.2.2.2.2.1⟩, ⟨_, (idx t).2.2.2.2.2.2.2.2.2.2.2.2⟩, rfl, rfl⟩

/-- The first result array holds the columns from 0 on. -/
theorem arr5 (c : Dev nD) : (dats m 0 c).arrAt 5 cfg0.N = cols 0 (by omega) (m ((c.tc : Thread nD τ).loc main_arg0)) (m ((c.tc : Thread nD τ).loc main_arg1)) := by
  refine (dats m 0 c).arrAt_eq_of_covers 5 _ (by decide +kernel) fun t hf y => ?_
  blk_simp
  rw [after0_5]
  unfold_out out0_5
  frame_out
  obtain ⟨z, r, l, rfl⟩ : ∃ (z : Fin 1) (r l : Fin 512), y = ix3 z r l := ⟨y 0, y 1, y 2, by funext a; fin_cases a <;> rfl⟩
  obtain rfl : z = 0 := Subsingleton.elim _ _
  obtain ⟨b, n, hb, hn⟩ := coords_at t
  rw [show ((View.whole main_v18_0).slice (win0_5.rect t)).emb (ix3 0 r l) = ix3 b ⟨n * 512 + r, by omega⟩ l by blk_ext [idx t, hb, hn]]
  pointwise [k0_pay4]
  refine (mix_at m c t b n hb hn r _).trans ?_
  simp only [cols, zero_add]
  rfl

/-- The second result array holds the columns from 512 on. -/
theorem arr6 (c : Dev nD) : (dats m 0 c).arrAt 6 cfg0.N = cols 512 (by omega) (m ((c.tc : Thread nD τ).loc main_arg0)) (m ((c.tc : Thread nD τ).loc main_arg1)) := by
  refine (dats m 0 c).arrAt_eq_of_covers 6 _ (by decide +kernel) fun t hf y => ?_
  blk_simp
  rw [after0_6]
  unfold_out out0_6
  frame_out
  obtain ⟨z, r, l, rfl⟩ : ∃ (z : Fin 1) (r l : Fin 512), y = ix3 z r l := ⟨y 0, y 1, y 2, by funext a; fin_cases a <;> rfl⟩
  obtain rfl : z = 0 := Subsingleton.elim _ _
  obtain ⟨b, n, hb, hn⟩ := coords_at t
  rw [show ((View.whole main_v18_1).slice (win0_6.rect t)).emb (ix3 0 r l) = ix3 b ⟨n * 512 + r, by omega⟩ l by blk_ext [idx t, hb, hn]]
  pointwise [k0_pay5]
  refine (mix_at m c t b n hb hn r _).trans ?_
  simp only [cols]
  rfl

/-- The third result array holds the columns from 1024 on. -/
theorem arr7 (c : Dev nD) : (dats m 0 c).arrAt 7 cfg0.N = cols 1024 (by omega) (m ((c.tc : Thread nD τ).loc main_arg0)) (m ((c.tc : Thread nD τ).loc main_arg1)) := by
  refine (dats m 0 c).arrAt_eq_of_covers 7 _ (by decide +kernel) fun t hf y => ?_
  blk_simp
  rw [after0_7]
  unfold_out out0_7
  frame_out
  obtain ⟨z, r, l, rfl⟩ : ∃ (z : Fin 1) (r l : Fin 512), y = ix3 z r l := ⟨y 0, y 1, y 2, by funext a; fin_cases a <;> rfl⟩
  obtain rfl : z = 0 := Subsingleton.elim _ _
  obtain ⟨b, n, hb, hn⟩ := coords_at t
  rw [show ((View.whole main_v18_2).slice (win0_7.rect t)).emb (ix3 0 r l) = ix3 b ⟨n * 512 + r, by omega⟩ l by blk_ext [idx t, hb, hn]]
  pointwise [k0_pay6]
  refine (mix_at m c t b n hb hn r _).trans ?_
  simp only [cols]
  rfl

/-- The fourth holds the logarithms of the decays. -/
theorem arr8 (c : Dev nD) : (dats m 0 c).arrAt 8 cfg0.N = decays (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 8 _ (by decide +kernel) fun t hf y => ?_
  blk_simp
  rw [after0_8]
  unfold_out out0_8
  frame_out
  obtain ⟨z, r, l, rfl⟩ : ∃ (z : Fin 1) (r l : Fin 512), y = ix3 z r l := ⟨y 0, y 1, y 2, by funext a; fin_cases a <;> rfl⟩
  obtain rfl : z = 0 := Subsingleton.elim _ _
  obtain ⟨b, n, hb, hn⟩ := coords_at t
  rw [show ((View.whole main_v18_3).slice (win0_8.rect t)).emb (ix3 0 r l) = ix3 b ⟨n * 512 + r, by omega⟩ l by blk_ext [idx t, hb, hn]]
  refine (pay9 _ _ _ _ r l).trans ?_
  refine (congrArg decay (low_at m c t b n hb hn r _)).trans ?_
  refine congrArg decay ?_
  rw [band_w, add_comm]
  unfold biases
  rw [dif_pos l.isLt]
  rfl

/-- The fifth holds the rates. -/
theorem arr9 (c : Dev nD) : (dats m 0 c).arrAt 9 cfg0.N = rates (m ((c.tc : Thread nD τ).loc main_arg0)) (m ((c.tc : Thread nD τ).loc main_arg1))
      (m ((c.tc : Thread nD τ).loc main_arg4)) (m ((c.tc : Thread nD τ).loc main_arg5)) := by
  refine (dats m 0 c).arrAt_eq_of_covers 9 _ (by decide +kernel) fun t hf y => ?_
  blk_simp
  rw [after0_9]
  unfold_out out0_9
  frame_out
  obtain ⟨z, r, l, rfl⟩ : ∃ (z : Fin 1) (r l : Fin 512), y = ix3 z r l := ⟨y 0, y 1, y 2, by funext a; fin_cases a <;> rfl⟩
  obtain rfl : z = 0 := Subsingleton.elim _ _
  obtain ⟨b, n, hb, hn⟩ := coords_at t
  rw [show ((View.whole main_v18_4).slice (win0_9.rect t)).emb (ix3 0 r l) = ix3 b ⟨n * 512 + r, by omega⟩ l by blk_ext [idx t, hb, hn]]
  pointwise [k0_pay1, k0_pay10]
  refine (congrArg Ideal.logistic (low_at m c t b n hb hn r _)).trans ?_
  refine congrArg Ideal.logistic ?_
  rw [band_a, add_comm]
  unfold biases
  rw [dif_neg (by simp only []; omega), dif_pos (by simp only []; omega)]
  refine congrArg₂ (· + ·) (congrArg _ (congrArg ix1 (Fin.ext (show 512 + l.val - 512 = l.val by omega)))) (Finset.sum_congr rfl fun j _ => ?_)
  exact congrArg (· * _) (mixed_congr _ _ _ _ (by simp only []; omega))

/-- The sixth holds the gates. -/
theorem arr10 (c : Dev nD) : (dats m 0 c).arrAt 10 cfg0.N = gates (m ((c.tc : Thread nD τ).loc main_arg0)) (m ((c.tc : Thread nD τ).loc main_arg1))
      (m ((c.tc : Thread nD τ).loc main_arg6)) := by
  refine (dats m 0 c).arrAt_eq_of_covers 10 _ (by decide +kernel) fun t hf y => ?_
  blk_simp
  rw [after0_10]
  unfold_out out0_10
  frame_out
  obtain ⟨z, r, l, rfl⟩ : ∃ (z : Fin 1) (r l : Fin 512), y = ix3 z r l := ⟨y 0, y 1, y 2, by funext a; fin_cases a <;> rfl⟩
  obtain rfl : z = 0 := Subsingleton.elim _ _
  obtain ⟨b, n, hb, hn⟩ := coords_at t
  rw [show ((View.whole main_v18_5).slice (win0_10.rect t)).emb (ix3 0 r l) = ix3 b ⟨n * 512 + r, by omega⟩ l by blk_ext [idx t, hb, hn]]
  pointwise [k0_pay2]
  refine (low_at m c t b n hb hn r _).trans ?_
  rw [band_g]
  unfold biases
  rw [dif_neg (by simp only []; omega), dif_neg (by simp only []; omega), add_zero]
  refine Finset.sum_congr rfl fun j _ => ?_
  exact congrArg (fun x => Ideal.logistic x * _) (mixed_congr _ _ _ _ (by simp only []; omega))

end Cert.PrepSpec
-- ==== Proof.Prep.Ref.lean ====
/-
  The preparation in the reference: its six results.
-/
module

public import proofs.«01_k».proof.Defs
public import proofs.«01_k».proof.Proof.Gen.RefPrepIdeal
public import proofs.«01_k».proof.Proof.Gen.RefPrepIdeal.Run
public import proofs.«01_k».proof.Proof.Prep.Arrays
public import Idealize.ShloMosaic.Lib.Pipeline.ValueKit
public import Idealize.ShloMosaic.Lib.Claim

@[expose] public section

set_option maxRecDepth 16384

noncomputable section

namespace Cert.PrepSpec
open Idealize.ShloMosaic Cert.RefPrepIdeal Cert.RefPrepIdeal.Gen
open Idealize.ShloMosaic.TcCoe

/-- The mixed projection, as the reference writes it. -/
def rmix (p : FVec Ideal S8x2048x1792 .f32) (mu : FVec Ideal S1792 .f32) : FVec Ideal S8x2048x1792 .f32 :=
  addf p (mulf (subf (pad S8x2048x1792 ![0, 1, 0] ![0, 0, 0] ![0, 0, 0] (extractStridedSlice S8x2047x1792 ![0, 0, 0] p slices_S8x2048x1792_S8x2047x1792_0_0_0) (sitofp .f32 (constantI S_ 32 0#32)) pads_S8x2047x1792_S8x2048x1792_000_100_000 h_S_) p) (broadcastInDim S8x2048x1792 ![0, 1, 2] bcast_S1x1x1792_S8x2048x1792_0_1_2 (broadcastInDim S1x1x1792 ![2] bcast_S1792_S1x1x1792_2 mu)))

/-- The whole number zero as a value. -/
theorem sitofp_zero : FloatOps.sitofp (F := Ideal) .f32 (0#32) = 0 := by
  simp [FloatOps.sitofp]

/-- The mixed projection at an index. -/
theorem rmix_at (p : FVec Ideal S8x2048x1792 .f32) (mu : FVec Ideal S1792 .f32) (b : Fin 8) (t : Fin 2048) (k : Fin 1792) :
    rmix p mu (ix3 b t k) = mixed p mu b t k := by
  unfold rmix
  pointwise
  unfold mixed
  by_cases h : t.val = 0
  · rw [dif_neg (by omega), if_pos h, show FloatOps.sitofp (F := Ideal) .f32 (0#32) = 0 from sitofp_zero]
  · rw [dif_pos (by omega), if_neg h]

variable (m : (ℓ : Loc nD τ sig) → Buf (Elt Ideal) ℓ)

/-- The decay's low-rank product, negated. -/
def rz (p : FVec Ideal S8x2048x1792 .f32) (mu : FVec Ideal S1792 .f32) (b0 : FVec Ideal S512 .f32) (w : FVec Ideal S64x512 .f32)  : FVec Ideal S8x2048x512 .f32 :=
  Host.negf (addf (broadcastInDim S8x2048x512 ![0, 1, 2] bcast_S1x1x512_S8x2048x512_0_1_2 (broadcastInDim S1x1x512 ![2] bcast_S512_S1x1x512_2 b0)) (Host.dotGeneral dot_S8x2048x64_S64x512_S8x2048x512_2_0_01_1_n_n none (Host.tanh (extractStridedSlice S8x2048x64 ![0, 0, 1536] (rmix p mu) slices_S8x2048x1792_S8x2048x64_0_0_1536)) w))

/-- It at an index. -/
theorem rz_at (p : FVec Ideal S8x2048x1792 .f32) (mu : FVec Ideal S1792 .f32) (b0 : FVec Ideal S512 .f32) (w : FVec Ideal S64x512 .f32) (b : Fin 8) (t : Fin 2048) (k : Fin 512) :
    rz p mu b0 w (ix3 b t k) = -(b0 (ix1 k) + ∑ j : Fin 64, Ideal.tanh (mixed p mu b t ⟨1536 + j, by omega⟩) * w (ix2 j k)) := by
  unfold rz
  pointwise
  simp only [rmix_at]

/-- The logarithm of the decay from it. -/
def rdec (z : FVec Ideal S8x2048x512 .f32) : FVec Ideal S8x2048x512 .f32 :=
  Host.negf (Host.exp (subf (Host.negf (select (cmpf .une (subf z (broadcastInDim S8x2048x512 ![] bcast_S_S8x2048x512 (constant S_ .f32 0x00000000#32))) (subf z (broadcastInDim S8x2048x512 ![] bcast_S_S8x2048x512 (constant S_ .f32 0x00000000#32)))) (addf z (broadcastInDim S8x2048x512 ![] bcast_S_S8x2048x512 (constant S_ .f32 0x00000000#32))) (addf (maximumf z (broadcastInDim S8x2048x512 ![] bcast_S_S8x2048x512 (constant S_ .f32 0x00000000#32))) (Host.log1p (Host.exp (Host.negf (Host.absf (subf z (broadcastInDim S8x2048x512 ![] bcast_S_S8x2048x512 (constant S_ .f32 0x00000000#32)))))))))) (broadcastInDim S8x2048x512 ![] bcast_S_S8x2048x512 (constant S_ .f32 0x3F000000#32))))

/-- The two in the reference. -/
theorem res_eq (c : Dev nD) : Value.res_main_v24 m c = rdec (rz (m ((c.tc : Thread nD τ).loc main_arg0)) (m ((c.tc : Thread nD τ).loc main_arg1)) (m ((c.tc : Thread nD τ).loc main_arg2)) (m ((c.tc : Thread nD τ).loc main_arg3))) := by
  unfold Value.res_main_v24; rfl
  skip

/-- It at an index. -/
theorem rdec_at (z : FVec Ideal S8x2048x512 .f32) (y : EReal) (b : Fin 8) (t : Fin 2048) (k : Fin 512) (h : z (ix3 b t k) = -y) : rdec z (ix3 b t k) = decay y := by
  unfold rdec
  pointwise
  rw [h, if_neg (by simp)]
  rfl

/-- 512 of its columns. -/
theorem rcols (o : ℕ) (ho : o + 512 ≤ 1792) (p : FVec Ideal S8x2048x1792 .f32) (mu : FVec Ideal S1792 .f32) (h) :
    extractStridedSlice S8x2048x512 ![0, 0, o] (rmix p mu) h = cols o ho p mu := by
  funext i
  obtain ⟨b, t, k, rfl⟩ : ∃ (b : Fin 8) (t : Fin 2048) (k : Fin 512), i = ix3 b t k := ⟨i 0, i 1, i 2, by funext a; fin_cases a <;> rfl⟩
  pointwise
  rw [rmix_at]
  rfl

/-- The logarithms of the decays. -/
theorem rdecays (c : Dev nD) : Value.res_main_v24 m c = decays (m ((c.tc : Thread nD τ).loc main_arg0)) (m ((c.tc : Thread nD τ).loc main_arg1))
    (m ((c.tc : Thread nD τ).loc main_arg2)) (m ((c.tc : Thread nD τ).loc main_arg3)) := by
  funext i
  obtain ⟨b, t, k, rfl⟩ : ∃ (b : Fin 8) (t : Fin 2048) (k : Fin 512), i = ix3 b t k := ⟨i 0, i 1, i 2, by funext a; fin_cases a <;> rfl⟩
  rw [res_eq]
  exact rdec_at _ _ b t k (rz_at _ _ _ _ b t k)

/-- The rates, as the reference writes them. -/
theorem rrates (p : FVec Ideal S8x2048x1792 .f32) (mu : FVec Ideal S1792 .f32) (b0 : FVec Ideal S512 .f32) (w : FVec Ideal S64x512 .f32) :
    Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf (addf (broadcastInDim S8x2048x512 ![0, 1, 2] bcast_S1x1x512_S8x2048x512_0_1_2 (broadcastInDim S1x1x512 ![2] bcast_S512_S1x1x512_2 b0)) (Host.dotGeneral dot_S8x2048x64_S64x512_S8x2048x512_2_0_01_1_n_n none (extractStridedSlice S8x2048x64 ![0, 0, 1600] (rmix p mu) slices_S8x2048x1792_S8x2048x64_0_0_1600) w)))))
      = rates p mu b0 w := by
  funext i
  obtain ⟨b, t, k, rfl⟩ : ∃ (b : Fin 8) (t : Fin 2048) (k : Fin 512), i = ix3 b t k := ⟨i 0, i 1, i 2, by funext a; fin_cases a <;> rfl⟩
  pointwise
  simp only [rmix_at]
  rfl

/-- The gates, as the reference writes them. -/
theorem rgates (p : FVec Ideal S8x2048x1792 .f32) (mu : FVec Ideal S1792 .f32) (w : FVec Ideal S128x512 .f32) :
    Host.dotGeneral dot_S8x2048x128_S128x512_S8x2048x512_2_0_01_1_n_n none (Host.divf (broadcastInDim S8x2048x128 ![] bcast_S_S8x2048x128 (constant S_ .f32 0x3F800000#32)) (addf (broadcastInDim S8x2048x128 ![] bcast_S_S8x2048x128 (constant S_ .f32 0x3F800000#32)) (Host.exp (Host.negf (extractStridedSlice S8x2048x128 ![0, 0, 1664] (rmix p mu) slices_S8x2048x1792_S8x2048x128_0_0_1664))))) w
      = gates p mu w := by
  funext i
  obtain ⟨b, t, k, rfl⟩ : ∃ (b : Fin 8) (t : Fin 2048) (k : Fin 512), i = ix3 b t k := ⟨i 0, i 1, i 2, by funext a; fin_cases a <;> rfl⟩
  pointwise
  simp only [rmix_at]
  rfl

end Cert.PrepSpec
-- ==== Proof.Prep.Claims.lean ====
/-
  The claims of the preparation.
-/
module

public import proofs.«01_k».proof.Defs
public import proofs.«01_k».proof.Proof.Gen.Prep
public import proofs.«01_k».proof.Proof.Gen.Prep.Frame
public import proofs.«01_k».proof.Proof.Gen.PrepIdeal
public import Idealize.ShloMosaic.Lib.Tactic.CleanTypes
public import proofs.«01_k».proof.Proof.Prep.Ref

@[expose] public section

set_option maxRecDepth 16384

noncomputable section

namespace Cert.PrepSpec
open Idealize.ShloMosaic
open Idealize.ShloMosaic.TcCoe

/-- The kernel terminates with its arguments unchanged and every counter back at zero. -/
theorem frame_kernel : Cert.quiescent_Prep := fun m g _ => Cert.Prep.Gen.frame m g

/-- So does the kernel that the value claim is about. -/
theorem frame_ideal : Cert.quiescent_PrepIdeal := fun m g _ => Cert.PrepIdeal.Gen.frame m g

/-- So does the reference. -/
theorem frame_reference : Cert.quiescent_RefPrepIdeal := fun m g _ =>
  (θ_run Cert.RefPrepIdeal.defs _ _).mono (fun _ h => ⟨fun c => (h c).2.2.2.2.2.2, funext fun g => nomatch g.2⟩) (Cert.RefPrepIdeal.Value.run m g)

/-- The kernel's six results are the reference's. -/
theorem value : Cert.algebraic_PrepIdeal_RefPrepIdeal := by
  pair_intro
  · run_from Cert.PrepIdeal.Value.run_blocks m g
  · run_from Cert.RefPrepIdeal.Value.run m' g'
    · rw [arr5 m c]
      clean_types
      exact rcols 0 (by omega) _ _ _
    · rw [arr6 m c]
      clean_types
      exact rcols 512 (by omega) _ _ _
    · rw [arr7 m c]
      clean_types
      exact rcols 1024 (by omega) _ _ _
    · rw [arr8 m c]
      clean_types
      refine (rdecays m' c).trans ?_
      rw [(hagree c).1, (hagree c).2.1, (hagree c).2.2.1, (hagree c).2.2.2.1]
    · rw [arr9 m c]
      clean_types
      exact rrates _ _ _ _
    · rw [arr10 m c]
      clean_types
      exact rgates _ _ _

end Cert.PrepSpec
-- ==== Proof.Conv.Spec.lean ====
/-
  The depthwise convolution: a sum over the taps, and the blocks of two-axis arrays it reads.
-/
module

public import proofs.«01_k».proof.Proof.Gen.ConvIdeal.Value
public import Idealize.ShloMosaic.Lib.Pipeline.ValueKit
public import Idealize.ShloMosaic.Lib.Pipeline.ReadBack
public import Idealize.ShloMosaic.Lib.WordCmp

@[expose] public section

set_option maxRecDepth 16384

noncomputable section

namespace Cert.ConvSpec
open Idealize.ShloMosaic Cert.ConvIdeal Cert.ConvIdeal.Gen
open Idealize.ShloMosaic.TcCoe Idealize.ShloMosaic.WordCmp

/-- Start value plus the first terms, one after the other. -/
def taps (z : EReal) (g : ℕ → EReal) : ℕ → EReal
  | 0 => z
  | n + 1 => taps z g n + g n

/-- Adding terms one after the other adds their sum. -/
theorem taps_eq (z : EReal) (g : ℕ → EReal) (n : ℕ) : taps z g n = z + ∑ j ∈ Finset.range n, g j := by
  induction n with
  | zero => simp [taps]
  | succ n ih => rw [taps, ih, Finset.sum_range_succ, add_assoc]

/-- An entry of a two-axis array by numbers; zero outside it. -/
def at2 {a b : ℕ} (x : Vec Ideal ⟨2, ![a, b]⟩ .f32) (i j : ℕ) : EReal :=
  if h : i < a ∧ j < b then x (ix2 ⟨i, h.1⟩ ⟨j, h.2⟩) else 0

/-- Inside the array it is the entry. -/
theorem at2_of {a b : ℕ} (x : Vec Ideal ⟨2, ![a, b]⟩ .f32) (i : Fin a) (j : Fin b) : at2 x i j = x (ix2 i j) := by
  rw [at2, dif_pos ⟨i.isLt, j.isLt⟩]

/-- The block of a two-axis array that starts at row `i` and column `j`. -/
def sub2 {a b : ℕ} (x : Vec Ideal ⟨2, ![a, b]⟩ .f32) (i j p q : ℕ) : Vec Ideal ⟨2, ![p, q]⟩ .f32 :=
  fun y => at2 x (i + (y 0).val) (j + (y 1).val)

/-- A load of a block. -/
theorem ld_sub2 {a b i j p q : ℕ} (x : Vec Ideal ⟨2, ![a, b]⟩ .f32) (h : ∀ k, (![i, j] : Fin 2 → ℕ) k + (![p, q] : Fin 2 → ℕ) k ≤ (⟨2, ![a, b]⟩ : Shape).size k) :
    View.ld x (Rect.unit (s := ⟨2, ![a, b]⟩) ![i, j] ![p, q] h) = sub2 x i j p q := by
  funext y
  have h0 := h 0
  have h1 := h 1
  have y0 : (y 0).val < p := (y 0).isLt
  have y1 : (y 1).val < q := (y 1).isLt
  simp at h0 h1
  rw [sub2, at2, dif_pos ⟨by omega, by omega⟩]
  refine congrArg x ?_
  funext k
  exact Fin.ext ((ValueKit.rect_emb_unit_val _ _ _ _ _).trans (by fin_cases k <;> rfl))

/-- The rows before a block, then the block's. -/
def joined (H : Vec Ideal S32x1024 .f32) (X : Vec Ideal S256x1024 .f32) : Vec Ideal S288x1024 .f32 := fun y =>
  if h : (y 0).val < 32 then H (ix2 ⟨y 0, h⟩ (y 1)) else X (ix2 ⟨(y 0).val - 32, by have := (y 0).isLt; simp at this; omega⟩ (y 1))

/-- A load of the joined rows. -/
theorem cov_joined {i j : ℕ} (H : Vec Ideal S32x1024 .f32) (X : Vec Ideal S256x1024 .f32) (i1 i2)
    (h : ∀ k, (![i, j] : Fin 2 → ℕ) k + (![64, 128] : Fin 2 → ℕ) k ≤ S288x1024.size k) :
    View.readCov (s := S288x1024) (e := .f32) (Val := Elt Ideal) (View.whole cc0_scratch0) [⟨Rect.unit ![32, 0] ![256, 1024] i1, X⟩, ⟨Rect.unit ![0, 0] ![32, 1024] i2, H⟩]
      (Rect.unit ![i, j] ![64, 128] h).toLoadRect = sub2 (joined H X) i j 64 128 := by
  rw [← ld_sub2 (joined H X) h]
  rw [View.readCov_eq_canon']
  funext y
  show View.canon _ ((Rect.unit (s := S288x1024) ![i, j] ![64, 128] h).idx y) = joined H X ((Rect.unit (s := S288x1024) ![i, j] ![64, 128] h).idx y)
  generalize (Rect.unit (s := S288x1024) ![i, j] ![64, 128] h).idx y = z
  refine View.canon_apply_of_pieces (Val := Elt Ideal) (e := .f32) (joined H X) _ (View.PiecesOf.mem ?_) z ?_
  refine ⟨fun x => ?_, fun x => ?_, trivial⟩
  · have x0 : (x 0).val < 256 := (x 0).isLt
    have e0 : (((Rect.unit (s := S288x1024) ![32, 0] ![256, 1024] i1).emb x) 0).val = 32 + (x 0).val := (ValueKit.rect_emb_unit_val _ _ _ _ _).trans (by simp)
    have e1 : (((Rect.unit (s := S288x1024) ![32, 0] ![256, 1024] i1).emb x) 1).val = (x 1).val := (ValueKit.rect_emb_unit_val _ _ _ _ _).trans (by simp)
    show X x = joined H X ((Rect.unit (s := S288x1024) ![32, 0] ![256, 1024] i1).emb x)
    rw [joined, dif_neg (by omega)]
    refine congrArg X ?_
    funext k
    fin_cases k <;> refine Fin.ext ?_
    · show (x 0).val = _ - 32
      omega
    · exact e1.symm
  · have x0 : (x 0).val < 32 := (x 0).isLt
    have e0 : (((Rect.unit (s := S288x1024) ![0, 0] ![32, 1024] i2).emb x) 0).val = (x 0).val := (ValueKit.rect_emb_unit_val _ _ _ _ _).trans (by simp)
    have e1 : (((Rect.unit (s := S288x1024) ![0, 0] ![32, 1024] i2).emb x) 1).val = (x 1).val := (ValueKit.rect_emb_unit_val _ _ _ _ _).trans (by simp)
    show H x = joined H X ((Rect.unit (s := S288x1024) ![0, 0] ![32, 1024] i2).emb x)
    rw [joined, dif_pos (by omega)]
    refine congrArg H ?_
    funext k
    fin_cases k <;> refine Fin.ext ?_
    · exact e0.symm
    · exact e1.symm
  · have z0 : (z 0).val < 288 := (z 0).isLt
    by_cases h0 : (z 0).val < 32
    · refine ⟨_, List.mem_cons_of_mem _ List.mem_cons_self, ?_⟩
      rw [← Rect.map_emb_univ]
      refine Finset.mem_map.2 ⟨ix2 (⟨z 0, h0⟩ : Fin 32) (z 1), Finset.mem_univ _, funext fun k => Fin.ext ((ValueKit.rect_emb_unit_val _ _ i2 _ _).trans ?_)⟩
      fin_cases k <;> exact Nat.zero_add _
    · refine ⟨_, List.mem_cons_self, ?_⟩
      rw [← Rect.map_emb_univ]
      refine Finset.mem_map.2 ⟨ix2 (⟨(z 0).val - 32, by omega⟩ : Fin 256) (z 1), Finset.mem_univ _, funext fun k => Fin.ext ((ValueKit.rect_emb_unit_val _ _ i1 _ _).trans ?_)⟩
      fin_cases k
      · show 32 + ((z 0).val - 32) = (z 0).val
        omega
      · exact Nat.zero_add _

/-- A tile's running sum over the taps. -/
def vtaps (z : FVec Ideal S64x128 .f32) (w : ℕ → Vec Ideal S1x128 .f32) (x : ℕ → Vec Ideal S64x128 .f32) : ℕ → FVec Ideal S64x128 .f32
  | 0 => z
  | n + 1 => addf (vtaps z w x n) (mulf (broadcastTo S64x128 (w n) broadcasts_S1x128_S64x128) (x n))

/-- A tile's start value: the bias. -/
def vbias (b : Vec Ideal S1x128 .f32) : FVec Ideal S64x128 .f32 :=
  addf (broadcast S64x128 (Scalar.ofBits .f32 0x00000000#32)) (broadcastTo S64x128 b broadcasts_S1x128_S64x128)

/-- The convolution of the joined rows. -/
def conv (w : Vec Ideal S31x1024 .f32) (b : Vec Ideal S1x1024 .f32) (B : Vec Ideal S288x1024 .f32) : Vec Ideal S256x1024 .f32 := fun i =>
  taps (0 + at2 b 0 (i 1)) (fun j => at2 w j (i 1) * at2 B (2 + j + (i 0).val) (i 1)) 31

/-- A tile's sum at an index. -/
theorem vtaps_at (z w x n) (r : Fin 64) (l : Fin 128) : vtaps z w x n (ix2 r l) = taps (z (ix2 r l)) (fun j => w j (ix2 0 l) * x j (ix2 r l)) n := by
  induction n with
  | zero => rfl
  | succ n ih =>
    rw [taps, ← ih, vtaps]
    pointwise []

/-- Every tile of the convolution is the running sum over its rows and columns. -/
theorem tile (w : Vec Ideal S31x1024 .f32) (b : Vec Ideal S1x1024 .f32) (B : Vec Ideal S288x1024 .f32) (r0 c0 : ℕ)
    (h : ∀ k, (![r0, c0] : Fin 2 → ℕ) k + (![64, 128] : Fin 2 → ℕ) k ≤ S256x1024.size k) (P : FVec Ideal S64x128 .f32)
    (hP : P = vtaps (vbias (sub2 b 0 c0 1 128)) (fun j => sub2 w j c0 1 128) (fun j => sub2 B (r0 + 2 + j) c0 64 128) 31)
    (x : S64x128.Idx) : P x = conv w b B ((Rect.unit (s := S256x1024) ![r0, c0] ![64, 128] h).emb x) := by
  subst hP
  obtain ⟨r, l, rfl⟩ : ∃ (r : Fin 64) (l : Fin 128), x = ix2 r l := ⟨x 0, x 1, by funext a; fin_cases a <;> rfl⟩
  have e0 : (((Rect.unit (s := S256x1024) ![r0, c0] ![64, 128] h).emb (ix2 r l)) 0).val = r0 + r.val := (ValueKit.rect_emb_unit_val _ _ _ _ _).trans (by simp)
  have e1 : (((Rect.unit (s := S256x1024) ![r0, c0] ![64, 128] h).emb (ix2 r l)) 1).val = c0 + l.val := (ValueKit.rect_emb_unit_val _ _ _ _ _).trans (by simp)
  rw [vtaps_at, conv, e0, e1]
  have hb : vbias (sub2 b 0 c0 1 128) (ix2 r l) = 0 + at2 b 0 (c0 + l.val) := by
    pointwise [vbias]
    rfl
  rw [hb]
  refine congrArg (fun g => taps _ g 31) (funext fun j => ?_)
  show at2 w (j + 0) (c0 + l.val) * at2 B (r0 + 2 + j + r.val) (c0 + l.val) = _
  rw [add_zero, show r0 + 2 + j + r.val = 2 + j + (r0 + r.val) by omega]

/-- So one more tile may be put before a list of tiles of the convolution. -/
theorem tile_cons {w : Vec Ideal S31x1024 .f32} {b : Vec Ideal S1x1024 .f32} {B : Vec Ideal S288x1024 .f32} {r0 c0 : ℕ}
    {h : ∀ k, (![r0, c0] : Fin 2 → ℕ) k + (![64, 128] : Fin 2 → ℕ) k ≤ S256x1024.size k} {P : FVec Ideal S64x128 .f32}
    {L : List (View.Piece (Elt Ideal) S256x1024 .f32)}
    (hP : P = vtaps (vbias (sub2 b 0 c0 1 128)) (fun j => sub2 w j c0 1 128) (fun j => sub2 B (r0 + 2 + j) c0 64 128) 31)
    (hL : View.PiecesOf (conv w b B) L) : View.PiecesOf (conv w b B) (⟨Rect.unit ![r0, c0] ![64, 128] h, P⟩ :: L) :=
  ⟨fun x => tile w b B r0 c0 h P hP x, hL⟩

end Cert.ConvSpec
-- ==== Proof.Conv.Kernel.lean ====
/-
  The depthwise convolution: what the kernel leaves in its accumulator.
-/
module

public import proofs.«01_k».proof.Proof.Conv.Spec

@[expose] public section

set_option maxRecDepth 16384

noncomputable section

namespace Cert.ConvSpec
open Idealize.ShloMosaic Cert.ConvIdeal Cert.ConvIdeal.Gen
open Idealize.ShloMosaic.TcCoe

variable (m : (ℓ : Loc nD τ sig) → Buf (Elt Ideal) ℓ)

set_option maxHeartbeats 2000000 in
/-- A point's result is the normalised convolution of its rows and the rows before them. -/
theorem out_at (c : Dev nD) (t : Fin cfg0.N) : outsAt0 m c t =
    (let A := conv (iblk m c 2 t) (iblk m c 3 t) (joined (k0_pay2 (grid0.coords t) (iblk m c 1 t)) (k0_pay3 (iblk m c 0 t)))
     k0_pay1 (F := Ideal) (k0_pay225 (k0_pay223 A) (k0_pay224 A) (iblk m c 4 t) (iblk m c 5 t))) := by
  unfold outsAt0 out0_A_6 kernelRun0_A
  rw [View.read_writes_junk_eq_canon]
  dsimp only []
  funext y
  frame_out
  refine congrArg (fun A => k0_pay1 (F := Ideal) (k0_pay225 (k0_pay223 A) (k0_pay224 A) (iblk m c 4 t) (iblk m c 5 t)) y) ?_
  generalize k0_pay2 (grid0.coords t) (iblk m c 1 t) = H
  generalize k0_pay3 (iblk m c 0 t) = X
  generalize (iblk m c 2 t : Vec Ideal S31x1024 .f32) = w
  generalize (iblk m c 3 t : Vec Ideal S1x1024 .f32) = b
  simp only [cov_joined]
  have hw (j k : ℕ) (h) : View.ld w (Rect.unit ![j, k] ![1, 128] h) = sub2 w j k 1 128 := ld_sub2 w h
  have hb (j k : ℕ) (h) : View.ld b (Rect.unit ![j, k] ![1, 128] h) = sub2 b j k 1 128 := ld_sub2 b h
  simp only [hw, hb]
  generalize joined H X = B
  funext i
  rw [View.readCov_eq_canon']
  beta_reduce
  refine (View.canon_apply_of_pieces (Val := Elt Ideal) (e := .f32) (conv w b B) _ (View.PiecesOf.mem ?_) _ ?_).trans (congrArg (conv w b B) ?_)
  · iterate 32
      refine tile_cons ?_ ?_
      · open_payloads
        simp only [vtaps, vbias, Nat.reduceAdd, shapeCast_self]
    trivial
  · exact View.cover_of_tiledL (s := S256x1024) _ ![64, 128] (by sl_kernel_rfl) _
  · funext k
    refine Fin.ext ?_
    fin_cases k <;> simp [LoadRect.idx_apply]
end Cert.ConvSpec
-- ==== Proof.Conv.Rows.lean ====
/-
  The depthwise convolution: a point's rows, their convolution and its normalization at an index.
-/
module

public import proofs.«01_k».proof.Proof.Conv.Spec

@[expose] public section

set_option maxRecDepth 16384

noncomputable section

namespace Cert.ConvSpec
open Idealize.ShloMosaic Cert.ConvIdeal Cert.ConvIdeal.Gen
open Idealize.ShloMosaic.TcCoe Idealize.ShloMosaic.WordCmp

/-- The sequence with 30 zero rows before it. -/
def past (u : Vec Ideal S8x2048x1024 .f32) (b : Fin 8) (q : ℕ) (k : Fin 1024) : EReal :=
  if h : 30 ≤ q ∧ q - 30 < 2048 then u (ix3 b ⟨q - 30, h.2⟩ k) else 0

/-- The convolution of a sequence at a time: the taps' sum, and the bias. -/
def pre (u : Vec Ideal S8x2048x1024 .f32) (w : Vec Ideal S31x1024 .f32) (d : Vec Ideal S1024 .f32) (b : Fin 8) (t : Fin 2048) (k : Fin 1024) : EReal :=
  d (ix1 k) + ∑ j ∈ Finset.range 31, at2 w j k * past u b (t + j) k

/-- A row less its mean. -/
def centred (y : Fin 1024 → EReal) (k : Fin 1024) : EReal := y k - Ideal.div (∑ j, y j) (Ideal.ofBits .f32 0x44800000#32)

/-- A row normalised, with gain and bias. -/
def normed (y : Fin 1024 → EReal) (g b : EReal) (k : Fin 1024) : EReal :=
  centred y k * Ideal.rsqrt (Ideal.div (∑ j, centred y j * centred y j) (Ideal.ofBits .f32 0x44800000#32) + Ideal.ofBits .f32 0x3727C5AC#32) * g + b

/-- The whole call: convolution, normalization, and the product with the logistic function. -/
def call (u : Vec Ideal S8x2048x1024 .f32) (w : Vec Ideal S31x1024 .f32) (d g b : Vec Ideal S1024 .f32) : Vec Ideal S8x2048x1024 .bf16 := fun i =>
  normed (pre u w d (i 0) (i 1)) (g (ix1 (i 2))) (b (ix1 (i 2))) (i 2) * Ideal.logistic (normed (pre u w d (i 0) (i 1)) (g (ix1 (i 2))) (b (ix1 (i 2))) (i 2))

/-- The kernel's centred rows. -/
theorem pay223_at (A : FVec Ideal S256x1024 .f32) (r : Fin 256) (k : Fin 1024) : k0_pay223 (F := Ideal) A (ix2 r k) = centred (fun j => A (ix2 r j)) k := by
  pointwise [k0_pay223]
  rfl

/-- The sums of their squares. -/
theorem pay224_at (A : FVec Ideal S256x1024 .f32) (r : Fin 256) :
    k0_pay224 (F := Ideal) A (ix2 r 0) = ∑ j, centred (fun j => A (ix2 r j)) j * centred (fun j => A (ix2 r j)) j := by
  unfold k0_pay224
  pointwise
  simp only [pay223_at]

/-- The kernel's normalised rows. -/
theorem out_row (A : FVec Ideal S256x1024 .f32) (g b : Vec Ideal S1x1024 .f32) (r : Fin 256) (k : Fin 1024) :
    k0_pay1 (F := Ideal) (k0_pay225 (k0_pay223 A) (k0_pay224 A) g b) (ix3 0 r k)
      = normed (fun j => A (ix2 r j)) (g (ix2 0 k)) (b (ix2 0 k)) k * Ideal.logistic (normed (fun j => A (ix2 r j)) (g (ix2 0 k)) (b (ix2 0 k)) k) := by
  unfold k0_pay1 k0_pay225
  pointwise
  rw [pay223_at, pay224_at]
  rfl

/-- The rows before a block: zero before the first. -/
theorem pay2_at (i : grid0.Coords) (v : Vec Ideal S1x32x1024 .f32) (r : Fin 32) (k : Fin 1024) :
    k0_pay2 (F := Ideal) i v (ix2 r k) = if 0 < (i 1).val then v (ix3 0 r k) else 0 := by
  have hi : (i 1).val < 8 := (i 1).isLt
  unfold k0_pay2 Scalar.cmpi
  rw [cmpi_sgt_ofNat (by omega) (by omega)]
  by_cases h : 0 < (i 1).val
  · rw [if_pos h, decide_eq_true h, Scalar.select, if_pos (by decide)]
    pointwise
  · rw [if_neg h, decide_eq_false h, Scalar.select, if_neg (by decide)]
    pointwise

variable (m : (ℓ : Loc nD τ sig) → Buf (Elt Ideal) ℓ)

/-- Every window's block index at a grid point (decided). -/
theorem idx : ∀ t : Fin cfg0.N, win0_0.index t = ![(grid0.coords t 0).val, (grid0.coords t 1).val, 0]
    ∧ win0_1.index t = ![(grid0.coords t 0).val, (grid0.coords t 1).val * 8 - 1, 0]
    ∧ win0_2.index t = ![0, 0] ∧ win0_3.index t = ![0, 0] ∧ win0_4.index t = ![0, 0] ∧ win0_5.index t = ![0, 0]
    ∧ win0_6.index t = ![(grid0.coords t 0).val, (grid0.coords t 1).val, 0]
    ∧ (grid0.coords t 0).val < 8 ∧ (grid0.coords t 1).val < 8 :=
  (by decide +kernel : ∀ t : Fin grid0.N, _)

/-- The taps of a grid point. -/
theorem w_at (c : Dev nD) (t : Fin cfg0.N) (j : Fin 31) (k : Fin 1024) :
    iblk m c 2 t (ix2 j k) = m ((c.tc : Thread nD τ).loc main_arg1) (ix2 j k) := by
  blk_simp [iblk, idx t]
  blk_ext [iblk, V, idx t]

/-- A one-row input of a grid point. -/
theorem d_at (c : Dev nD) (t : Fin cfg0.N) (k : Fin 1024) :
    iblk m c 3 t (ix2 0 k) = m ((c.tc : Thread nD τ).loc main_arg2) (ix1 k)
    ∧ iblk m c 4 t (ix2 0 k) = m ((c.tc : Thread nD τ).loc main_arg3) (ix1 k)
    ∧ iblk m c 5 t (ix2 0 k) = m ((c.tc : Thread nD τ).loc main_arg4) (ix1 k) := by
  refine ⟨?_, ?_, ?_⟩
  all_goals
    blk_simp [iblk, idx t]
    entry_read
    pointwise
    blk_ext [idx t]

/-- A row of a grid point's block. -/
theorem x_at (c : Dev nD) (t : Fin cfg0.N) (b n : Fin 8) (hb : (grid0.coords t 0).val = b) (hn : (grid0.coords t 1).val = n) (r : Fin 256) (k : Fin 1024) :
    iblk m c 0 t (ix3 0 r k) = m ((c.tc : Thread nD τ).loc main_arg0) (ix3 b ⟨n * 256 + r, by omega⟩ k) := by
  blk_simp [iblk, idx t]
  blk_ext [iblk, V, idx t]

/-- A row before it. -/
theorem h_at (c : Dev nD) (t : Fin cfg0.N) (b n : Fin 8) (hb : (grid0.coords t 0).val = b) (hn : (grid0.coords t 1).val = n) (r : Fin 32) (k : Fin 1024) :
    iblk m c 1 t (ix3 0 r k) = m ((c.tc : Thread nD τ).loc main_arg0) (ix3 b ⟨(n * 8 - 1) * 32 + r, by omega⟩ k) := by
  blk_simp [iblk, idx t]
  blk_ext [iblk, V, idx t]

/-- The joined rows are the sequence's. -/
theorem joined_at (c : Dev nD) (t : Fin cfg0.N) (b n : Fin 8) (hb : (grid0.coords t 0).val = b) (hn : (grid0.coords t 1).val = n) (r : Fin 256) (j : ℕ) (hj : j < 31) (k : Fin 1024) :
    at2 (joined (k0_pay2 (F := Ideal) (grid0.coords t) (iblk m c 1 t)) (k0_pay3 (F := Ideal) (iblk m c 0 t))) (2 + j + r) k
      = past (m ((c.tc : Thread nD τ).loc main_arg0)) b (n * 256 + r + j) k := by
  rw [at2, dif_pos ⟨by omega, k.isLt⟩, joined, past]
  by_cases h : 2 + j + r.val < 32
  · refine (dif_pos h).trans ?_
    refine (pay2_at _ _ ⟨2 + j + r.val, h⟩ k).trans ?_
    rw [hn]
    by_cases h0 : 0 < n.val
    · rw [if_pos h0, dif_pos ⟨by omega, by omega⟩, h_at m c t b n hb hn]
      refine congrArg (fun q => m ((c.tc : Thread nD τ).loc main_arg0) (ix3 b q k)) (Fin.ext ?_)
      show (n.val * 8 - 1) * 32 + (2 + j + r.val) = n.val * 256 + r.val + j - 30
      omega
    · rw [if_neg h0, dif_neg (by omega)]
  · refine (dif_neg h).trans ?_
    rw [dif_pos ⟨by omega, by omega⟩]
    refine Eq.trans ?_ ((x_at m c t b n hb hn ⟨2 + j + r.val - 32, by omega⟩ k).trans ?_)
    · pointwise [k0_pay3]
    · refine congrArg (fun q => m ((c.tc : Thread nD τ).loc main_arg0) (ix3 b q k)) (Fin.ext ?_)
      show n.val * 256 + (2 + j + r.val - 32) = n.val * 256 + r.val + j - 30
      omega

/-- The kernel's convolution is the sequence's. -/
theorem conv_at (c : Dev nD) (t : Fin cfg0.N) (b n : Fin 8) (hb : (grid0.coords t 0).val = b) (hn : (grid0.coords t 1).val = n) (r : Fin 256) (k : Fin 1024) :
    conv (iblk m c 2 t) (iblk m c 3 t) (joined (k0_pay2 (F := Ideal) (grid0.coords t) (iblk m c 1 t)) (k0_pay3 (F := Ideal) (iblk m c 0 t))) (ix2 r k)
      = pre (m ((c.tc : Thread nD τ).loc main_arg0)) (m ((c.tc : Thread nD τ).loc main_arg1)) (m ((c.tc : Thread nD τ).loc main_arg2)) b ⟨n * 256 + r, by omega⟩ k := by
  rw [conv, taps_eq, pre, zero_add]
  refine congrArg₂ (· + ·) ((at2_of (iblk m c 3 t) 0 k).trans (d_at m c t k).1) (Finset.sum_congr rfl fun j hj => ?_)
  have hj := Finset.mem_range.1 hj
  refine congrArg₂ (· * ·) ?_ (joined_at m c t b n hb hn r j hj k)
  exact (at2_of (iblk m c 2 t) ⟨j, hj⟩ k).trans ((w_at m c t ⟨j, hj⟩ k).trans (at2_of (m ((c.tc : Thread nD τ).loc main_arg1)) ⟨j, hj⟩ k).symm)

end Cert.ConvSpec
-- ==== Proof.Conv.Arrays.lean ====
/-
  The depthwise convolution: the kernel's result array and the reference's.
-/
module

public import proofs.«01_k».proof.Defs
public import proofs.«01_k».proof.Proof.Gen.Conv
public import proofs.«01_k».proof.Proof.Gen.Conv.Frame
public import proofs.«01_k».proof.Proof.Gen.ConvIdeal
public import proofs.«01_k».proof.Proof.Gen.RefConvIdeal
public import proofs.«01_k».proof.Proof.Gen.RefConvIdeal.Run
public import Idealize.ShloMosaic.Lib.Tactic.CleanTypes
public import proofs.«01_k».proof.Proof.Conv.Kernel
public import proofs.«01_k».proof.Proof.Conv.Rows
public import Idealize.ShloMosaic.Lib.Claim

@[expose] public section

set_option maxRecDepth 16384

noncomputable section

namespace Cert.ConvSpec
open Idealize.ShloMosaic Cert.ConvIdeal Cert.ConvIdeal.Gen
open Idealize.ShloMosaic.TcCoe

variable (m : (ℓ : Loc nD τ sig) → Buf (Elt Ideal) ℓ)

/-- A grid point's result rows. -/
theorem out_at_row (c : Dev nD) (t : Fin cfg0.N) (b n : Fin 8) (hb : (grid0.coords t 0).val = b) (hn : (grid0.coords t 1).val = n) (r : Fin 256) (k : Fin 1024) :
    outsAt0 m c t (ix3 0 r k) = call (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (ix3 b ⟨n * 256 + r, by omega⟩ k) := by
  refine (congrFun (out_at m c t) (ix3 0 r k)).trans ((out_row _ _ _ r k).trans ?_)
  simp only [conv_at m c t b n hb hn r]
  have hg := (d_at m c t k).2.1
  have hd := (d_at m c t k).2.2
  rw [hg, hd]
  rfl

/-- The result array is the whole call of the arguments. -/
theorem arr6 (c : Dev nD) : (dats m 0 c).arrAt 6 cfg0.N = call (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6]
  obtain ⟨r, k, rfl⟩ : ∃ (r : Fin 256) (k : Fin 1024), y = ix3 0 r k := ⟨y 1, y 2, by funext a; fin_cases a <;> first | rfl | exact Subsingleton.elim (α := Fin 1) _ _⟩
  refine (out_at_row m c t ⟨_, (idx t).2.2.2.2.2.2.2.1⟩ ⟨_, (idx t).2.2.2.2.2.2.2.2⟩ rfl rfl r k).trans ?_
  refine congrArg _ ?_
  blk_ext [idx t]

end Cert.ConvSpec
-- ==== Proof.Conv.Ref.lean ====
/-
  The depthwise convolution: the reference's result.
-/
module

public import proofs.«01_k».proof.Proof.Gen.RefConvIdeal
public import proofs.«01_k».proof.Proof.Gen.RefConvIdeal.Run
public import proofs.«01_k».proof.Proof.Conv.Rows

@[expose] public section

set_option maxRecDepth 16384

noncomputable section

namespace Cert.ConvSpec
open Idealize.ShloMosaic Cert.RefConvIdeal Cert.RefConvIdeal.Gen
open Idealize.ShloMosaic.TcCoe

/-- The reference's padded sequence. -/
def rpad (u : FVec Ideal S8x2048x1024 .f32) : FVec Ideal S8x2078x1024 .f32 :=
  pad S8x2078x1024 ![0, 30, 0] ![0, 0, 0] ![0, 0, 0] u (sitofp .f32 (constantI S_ 32 0#32)) pads_S8x2048x1024_S8x2078x1024_000_3000_000 h_S_

/-- It at an index. -/
theorem rpad_at (u : FVec Ideal S8x2048x1024 .f32) (b : Fin 8) (q : Fin 2078) (k : Fin 1024) : rpad u (ix3 b q k) = past u b q k := by
  unfold rpad
  pointwise
  rw [past]
  exact dite_congr rfl (fun _ => rfl) fun _ => by simp [FloatOps.sitofp]

/-- One tap's term, in either order. -/
theorem tap (u : FVec Ideal S8x2048x1024 .f32) (w : FVec Ideal S31x1024 .f32) (P : FVec Ideal S8x2078x1024 .f32) (b : Fin 8) (t : Fin 2048) (k : Fin 1024)
    (hp : ∀ q : Fin 2078, P (ix3 b q k) = past u b q k) (j : ℕ) (hj : j < 31) (h : j + t.val < 2078) :
    at2 w j k * past u b (t.val + j) k = P (ix3 b ⟨j + t.val, h⟩ k) * w (ix2 ⟨j, hj⟩ k) := by
  rw [hp, at2_of w ⟨j, hj⟩ k, Nat.add_comm]
  exact mul_comm _ _

/-- The reference's convolution at an index. -/
theorem rpre_at (V : Valuation τ sig (Elt Ideal)) (b : Fin 8) (t : Fin 2048) (k : Fin 1024) : Value.res_main_v221 V (ix3 b t k)
    = pre (V (Proc.devRef .tc main_arg0)) (V (Proc.devRef .tc main_arg1)) (V (Proc.devRef .tc main_arg2)) b t k := by
  have hp (q : Fin 2078) : Value.res_main_v0 V (ix3 b q k) = past (V (Proc.devRef .tc main_arg0)) b q k := rpad_at _ b q k
  unfold Value.res_main_v221 Value.res_main_v155 Value.res_main_v78
  generalize Value.res_main_v0 V = P at hp ⊢
  pointwise
  have key := tap (V (Proc.devRef .tc main_arg0)) (V (Proc.devRef .tc main_arg1)) P b t k hp
  refine Eq.trans ?_ (add_comm (G := EReal) _ _)
  refine congrArg (fun x : EReal => x + _) (Eq.symm ?_)
  simp only [Finset.sum_range_succ, Finset.sum_range_zero, zero_add]
  iterate 30 refine congrArg₂ (· + ·) ?_ (key _ (by decide) (by omega))
  exact (key 0 (by decide) (by omega)).trans (by simp only [Nat.zero_add]; rfl)

/-- The reference's normalised rows at an index. -/
theorem rnorm_at (V : Valuation τ sig (Elt Ideal)) (b : Fin 8) (t : Fin 2048) (k : Fin 1024) : Value.res_main_v245 V (ix3 b t k)
    = normed (fun j => Value.res_main_v221 V (ix3 b t j)) (V (Proc.devRef .tc main_arg3) (ix1 k)) (V (Proc.devRef .tc main_arg4) (ix1 k)) k := by
  unfold Value.res_main_v245 Value.res_main_v227 Value.res_main_v225
  generalize Value.res_main_v221 V = y
  pointwise
  rfl

/-- The reference's result. -/
theorem rcall (V : Valuation τ sig (Elt Ideal)) :
    truncf .bf16 (mulf (Value.res_main_v245 V : FVec Ideal S8x2048x1024 .f32) (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (Value.res_main_v245 V)))))) bitsLt_bf16_f32
      = call (V (Proc.devRef .tc main_arg0)) (V (Proc.devRef .tc main_arg1)) (V (Proc.devRef .tc main_arg2)) (V (Proc.devRef .tc main_arg3)) (V (Proc.devRef .tc main_arg4)) := by
  funext i
  obtain ⟨b, t, k, rfl⟩ : ∃ (b : Fin 8) (t : Fin 2048) (k : Fin 1024), i = ix3 b t k := ⟨i 0, i 1, i 2, by funext a; fin_cases a <;> rfl⟩
  have h := rnorm_at V b t k
  simp only [rpre_at] at h
  pointwise
  rw [h]
  rfl

end Cert.ConvSpec
-- ==== Proof.Conv.Claims.lean ====
/-
  The claims of the depthwise convolution.
-/
module

public import proofs.«01_k».proof.Defs
public import proofs.«01_k».proof.Proof.Gen.Conv
public import proofs.«01_k».proof.Proof.Gen.Conv.Frame
public import proofs.«01_k».proof.Proof.Gen.ConvIdeal
public import Idealize.ShloMosaic.Lib.Tactic.CleanTypes
public import proofs.«01_k».proof.Proof.Conv.Arrays
public import proofs.«01_k».proof.Proof.Conv.Ref

@[expose] public section

set_option maxRecDepth 16384

noncomputable section

namespace Cert.ConvSpec
open Idealize.ShloMosaic
open Idealize.ShloMosaic.TcCoe

/-- The kernel terminates with its arguments unchanged and every counter back at zero. -/
theorem frame_kernel : Cert.quiescent_Conv := fun m g _ => Cert.Conv.Gen.frame m g

/-- So does the kernel that the value claim is about. -/
theorem frame_ideal : Cert.quiescent_ConvIdeal := fun m g _ => Cert.ConvIdeal.Gen.frame m g

/-- So does the reference. -/
theorem frame_reference : Cert.quiescent_RefConvIdeal := fun m g _ =>
  (θ_run Cert.RefConvIdeal.defs _ _).mono (fun _ h => ⟨fun c => (h c).2, funext fun g => nomatch g.2⟩) (Cert.RefConvIdeal.Value.run m g)

/-- The kernel's result is the reference's. -/
theorem value : Cert.algebraic_ConvIdeal_RefConvIdeal := by
  pair_intro
  · run_from Cert.ConvIdeal.Value.run_blocks m g
  · run_from Cert.RefConvIdeal.Value.run m' g'
    rw [arr6 m c]
    clean_types
    refine (rcall (StableHlo.launchContents m' c)).trans ?_
    rw [← (hagree c).1, ← (hagree c).2.1, ← (hagree c).2.2.1, ← (hagree c).2.2.2.1, ← (hagree c).2.2.2.2]

end Cert.ConvSpec
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.MlpMid
public import proofs.«01_k».proof.Proof.Gen.MlpMid.Skeleton
public import proofs.«01_k».proof.Proof.Gen.MlpMid.Launch
public import proofs.«01_k».proof.Proof.Gen.MlpMid.Points
public import proofs.«01_k».proof.Proof.Gen.MlpMid.Frame
public import proofs.«01_k».proof.Proof.Gen.MlpMidIdeal
public import proofs.«01_k».proof.Proof.Gen.MlpMidIdeal.Skeleton
public import proofs.«01_k».proof.Proof.Gen.MlpMidIdeal.Launch
public import proofs.«01_k».proof.Proof.Gen.MlpMidIdeal.Points
public import proofs.«01_k».proof.Proof.Gen.MlpMidIdeal.Frame
public import proofs.«01_k».proof.Proof.Gen.RefMlpMidIdeal
public import proofs.«01_k».proof.Proof.Gen.MlpLast
public import proofs.«01_k».proof.Proof.Gen.MlpLast.Skeleton
public import proofs.«01_k».proof.Proof.Gen.MlpLast.Launch
public import proofs.«01_k».proof.Proof.Gen.MlpLast.Points
public import proofs.«01_k».proof.Proof.Gen.MlpLast.Frame
public import proofs.«01_k».proof.Proof.Gen.MlpLastIdeal
public import proofs.«01_k».proof.Proof.Gen.MlpLastIdeal.Skeleton
public import proofs.«01_k».proof.Proof.Gen.MlpLastIdeal.Launch
public import proofs.«01_k».proof.Proof.Gen.MlpLastIdeal.Points
public import proofs.«01_k».proof.Proof.Gen.MlpLastIdeal.Frame
public import proofs.«01_k».proof.Proof.Gen.RefMlpLastIdeal
public import proofs.«01_k».proof.Proof.Gen.NormProj
public import proofs.«01_k».proof.Proof.Gen.NormProj.Skeleton
public import proofs.«01_k».proof.Proof.Gen.NormProj.Launch
public import proofs.«01_k».proof.Proof.Gen.NormProj.Points
public import proofs.«01_k».proof.Proof.Gen.NormProj.Frame
public import proofs.«01_k».proof.Proof.Gen.NormProjIdeal
public import proofs.«01_k».proof.Proof.Gen.NormProjIdeal.Skeleton
public import proofs.«01_k».proof.Proof.Gen.NormProjIdeal.Launch
public import proofs.«01_k».proof.Proof.Gen.NormProjIdeal.Points
public import proofs.«01_k».proof.Proof.Gen.NormProjIdeal.Frame
public import proofs.«01_k».proof.Proof.Gen.RefNormProjIdeal
public import proofs.«01_k».proof.Proof.Gen.NormGlu
public import proofs.«01_k».proof.Proof.Gen.NormGlu.Skeleton
public import proofs.«01_k».proof.Proof.Gen.NormGlu.Launch
public import proofs.«01_k».proof.Proof.Gen.NormGlu.Points
public import proofs.«01_k».proof.Proof.Gen.NormGlu.Frame
public import proofs.«01_k».proof.Proof.Gen.NormGluIdeal
public import proofs.«01_k».proof.Proof.Gen.NormGluIdeal.Skeleton
public import proofs.«01_k».proof.Proof.Gen.NormGluIdeal.Launch
public import proofs.«01_k».proof.Proof.Gen.NormGluIdeal.Points
public import proofs.«01_k».proof.Proof.Gen.NormGluIdeal.Frame
public import proofs.«01_k».proof.Proof.Gen.RefNormGluIdeal
public import proofs.«01_k».proof.Proof.Gen.KernelIdeal.Value
public import proofs.«01_k».proof.Proof.Gen.MlpMidIdeal.Value
public import proofs.«01_k».proof.Proof.Gen.MlpLastIdeal.Value
public import proofs.«01_k».proof.Proof.Gen.NormProjIdeal.Value
public import proofs.«01_k».proof.Proof.Gen.NormGluIdeal.Value
public import proofs.«01_k».proof.Proof.Gen.ReferenceIdeal.Run
public import proofs.«01_k».proof.Proof.Gen.RefMlpMidIdeal.Run
public import proofs.«01_k».proof.Proof.Gen.RefMlpLastIdeal.Run
public import proofs.«01_k».proof.Proof.Gen.RefNormProjIdeal.Run
public import proofs.«01_k».proof.Proof.Gen.RefNormGluIdeal.Run
public import proofs.«01_k».proof.Proof.Attn.Claims
public import proofs.«01_k».proof.Proof.Norm.Proj
public import proofs.«01_k».proof.Proof.Norm.Glu
public import proofs.«01_k».proof.Proof.Mlp.Frames
public import proofs.«01_k».proof.Proof.Mlp.Mid
public import proofs.«01_k».proof.Proof.Mlp.Last
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.RefPrepIdeal
public import proofs.«01_k».proof.Proof.Gen.RefPrepIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.RefConvIdeal
public import proofs.«01_k».proof.Proof.Gen.RefConvIdeal.Run
public import proofs.«01_k».proof.Proof.Prep.Claims
public import proofs.«01_k».proof.Proof.Conv.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MlpMid.Gen.facts,
  Cert.MlpMidIdeal.Gen.facts, Cert.RefMlpMidIdeal.Gen.facts,
  Cert.MlpLast.Gen.facts,
  Cert.MlpLastIdeal.Gen.facts, Cert.RefMlpLastIdeal.Gen.facts,
  Cert.NormProj.Gen.facts,
  Cert.NormProjIdeal.Gen.facts, Cert.RefNormProjIdeal.Gen.facts,
  Cert.NormGlu.Gen.facts,
  Cert.NormGluIdeal.Gen.facts, Cert.RefNormGluIdeal.Gen.facts,
  Cert.Prep.Gen.facts,
  Cert.PrepIdeal.Gen.facts, Cert.RefPrepIdeal.Gen.facts,
  Cert.Conv.Gen.facts,
  Cert.ConvIdeal.Gen.facts, Cert.RefConvIdeal.Gen.facts,
  Cert.Proof.Attn.frame_kernel, Cert.Proof.Attn.frame_kernelIdeal, Cert.Proof.Attn.frame_reference,
  Cert.Mlp.mid_kernel, Cert.Mlp.mid_ideal, Cert.Mlp.mid_reference,
  Cert.Mlp.last_kernel, Cert.Mlp.last_ideal, Cert.Mlp.last_reference,
  Cert.Norm.Proj.frame_kernel, Cert.Norm.Proj.frame_ideal, Cert.Norm.Proj.frame_reference,
  Cert.Norm.Glu.frame_kernel, Cert.Norm.Glu.frame_ideal, Cert.Norm.Glu.frame_reference,
  Cert.PrepSpec.frame_kernel, Cert.PrepSpec.frame_ideal, Cert.PrepSpec.frame_reference,
  Cert.ConvSpec.frame_kernel, Cert.ConvSpec.frame_ideal, Cert.ConvSpec.frame_reference,
  trivial, Cert.Proof.Attn.value,
  trivial, Cert.Mlp.Mid.value,
  trivial, Cert.Mlp.Last.value,
  trivial, Cert.Norm.Proj.value,
  trivial, Cert.Norm.Glu.value,
  trivial, Cert.PrepSpec.value,
  trivial, Cert.ConvSpec.value⟩

end Cert.Proof

end
